-- ==== Defs.lean ====
def Pre_Kernel [hPre_finite_in_vocab : Cert.Pre_finite_in_vocab.Facts] (m : (ℓ : Loc Cert.Kernel.nD Cert.Kernel.τ Cert.Kernel.sig) → Buf (Elt Bits) ℓ) : Prop :=
  ∀ c : Dev Cert.Kernel.nD,
    (Cert.Pre_finite_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_in_vocab : Cert.Pre_finite_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_in_vocab : Cert.Pre_finite_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_finite_in_vocab : Cert.Pre_finite_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_finite_in_vocab : Cert.Pre_finite_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_in_vocab : Cert.Pre_finite_in_vocab.Facts),
    quiescent_Kernel (hKernel := hKernel) (hPre_finite_in_vocab := hPre_finite_in_vocab)
    ∧ quiescent_KernelIdeal (hKernelIdeal := hKernelIdeal) (hPre_finite_in_vocab := hPre_finite_in_vocab)
    ∧ quiescent_ReferenceIdeal (hReferenceIdeal := hReferenceIdeal) (hPre_finite_in_vocab := hPre_finite_in_vocab)
    ∧ preserves_Kernel_KernelIdeal
    ∧ algebraic_KernelIdeal_ReferenceIdeal (hKernelIdeal := hKernelIdeal) (hReferenceIdeal := hReferenceIdeal) (hPre_finite_in_vocab := hPre_finite_in_vocab)
-- ==== Pre_finite_in_vocab.lean ====
abbrev S32x20 : Shape := ⟨2, ![32, 20]⟩
abbrev S100000x64 : Shape := ⟨2, ![100000, 64]⟩
abbrev S64x384 : Shape := ⟨2, ![64, 384]⟩
abbrev S128x384 : Shape := ⟨2, ![128, 384]⟩
abbrev S2x384 : Shape := ⟨2, ![2, 384]⟩
abbrev S128x100000 : Shape := ⟨2, ![128, 100000]⟩
abbrev S100000 : Shape := ⟨1, ![100000]⟩
abbrev S_ : Shape := ⟨0, ![]⟩

class Facts : Prop where
  bcast_S_S32x20 : S_.BroadcastsInDim S32x20 (![] : Fin 0 → Fin S32x20.rank)
  reducesTo_S32x20_S_d0_1 : S32x20.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S32x20 32) (main_arg1 : FVec F S100000x64 .f32) (main_arg2 : FVec F S64x384 .f32) (main_arg3 : FVec F S128x384 .f32) (main_arg4 : FVec F S2x384 .f32) (main_arg5 : FVec F S128x100000 .f32) (main_arg6 : FVec F S100000 .f32) : IVec S_ 1 :=
  let main_c : IVec S_ 32 := constantI S_ 32 0#32
  let main_v0 : IVec S32x20 32 := broadcastInDim S32x20 ![] bcast_S_S32x20 main_c
  let main_v1 : IVec S32x20 1 := cmpi .sge main_arg0 main_v0
  let main_c_0 : IVec S_ 32 := constantI S_ 32 100000#32
  let main_v2 : IVec S32x20 32 := broadcastInDim S32x20 ![] bcast_S_S32x20 main_c_0
  let main_v3 : IVec S32x20 1 := cmpi .slt main_arg0 main_v2
  let main_v4 : IVec S32x20 1 := andi main_v1 main_v3
  let main_c_1 : IVec S_ 1 := constantI S_ 1 1#1
  let main_v5 : IVec S_ 1 := (fun x v => Host.reduce IntOp.andi x v reducesTo_S32x20_S_d0_1 h_S_) main_v4 main_c_1
  let main_v6 : FVec F S128x100000 .f32 := Host.absf main_arg5
  let main_cst : FVec F S_ .f32 := constant S_ .f32 0x7F800000#32
  let main_v7 : FVec F S128x100000 .f32 := broadcastInDim S128x100000 ![] bcast_S_S128x100000 main_cst
  let main_v8 : IVec S128x100000 1 := cmpf .olt main_v6 main_v7
  let main_c_2 : IVec S_ 1 := constantI S_ 1 1#1
  let main_v9 : IVec S_ 1 := (fun x v => Host.reduce IntOp.andi x v reducesTo_S128x100000_S_d0_1 h_S_) main_v8 main_c_2
  let main_v10 : IVec S_ 1 := andi main_v5 main_v9
  let main_v11 : FVec F S100000 .f32 := Host.absf main_arg6
  let main_cst_3 : FVec F S_ .f32 := constant S_ .f32 0x7F800000#32
  let main_v12 : FVec F S100000 .f32 := broadcastInDim S100000 ![] bcast_S_S100000 main_cst_3
  let main_v13 : IVec S100000 1 := cmpf .olt main_v11 main_v12
  let main_c_4 : IVec S_ 1 := constantI S_ 1 1#1
  let main_v14 : IVec S_ 1 := (fun x v => Host.reduce IntOp.andi x v reducesTo_S100000_S_d0 h_S_) main_v13 main_c_4
  let main_v15 : IVec S_ 1 := andi main_v10 main_v14
  main_v15
-- ==== Kernel.lean ====
abbrev S32x20 : Shape := ⟨2, ![32, 20]⟩
abbrev S100000x64 : Shape := ⟨2, ![100000, 64]⟩
abbrev S64x384 : Shape := ⟨2, ![64, 384]⟩
abbrev S128x384 : Shape := ⟨2, ![128, 384]⟩
abbrev S2x384 : Shape := ⟨2, ![2, 384]⟩
abbrev S128x100000 : Shape := ⟨2, ![128, 100000]⟩
abbrev S100000 : Shape := ⟨1, ![100000]⟩
abbrev S20x32 : Shape := ⟨2, ![20, 32]⟩
abbrev S640 : Shape := ⟨1, ![640]⟩
abbrev S_ : Shape := ⟨0, ![]⟩
abbrev S640x1 : Shape := ⟨2, ![640, 1]⟩
abbrev S128 : Shape := ⟨1, ![128]⟩
abbrev S768 : Shape := ⟨1, ![768]⟩
abbrev S50000x128 : Shape := ⟨2, ![50000, 128]⟩
abbrev S768x128 : Shape := ⟨2, ![768, 128]⟩
abbrev S24 : Shape := ⟨1, ![24]⟩
abbrev S24x128 : Shape := ⟨2, ![24, 128]⟩
abbrev S640x128 : Shape := ⟨2, ![640, 128]⟩
abbrev S32x20x128 : Shape := ⟨3, ![32, 20, 128]⟩
abbrev S1x384 : Shape := ⟨2, ![1, 384]⟩
abbrev S640x64 : Shape := ⟨2, ![640, 64]⟩
abbrev S640x384 : Shape := ⟨2, ![640, 384]⟩
abbrev S32x128 : Shape := ⟨2, ![32, 128]⟩
abbrev S32x384 : Shape := ⟨2, ![32, 384]⟩
abbrev S32x1x128 : Shape := ⟨3, ![32, 1, 128]⟩
abbrev S1x100000 : Shape := ⟨2, ![1, 100000]⟩
abbrev S128x2048 : Shape := ⟨2, ![128, 2048]⟩
abbrev S1x2048 : Shape := ⟨2, ![1, 2048]⟩
abbrev S640x2048 : Shape := ⟨2, ![640, 2048]⟩
abbrev S640x100000 : Shape := ⟨2, ![640, 100000]⟩
abbrev S32x20x100000 : Shape := ⟨3, ![32, 20, 100000]⟩

abbrev nBuf : Table → Nat
  | .hbm => 62
  | .local .tc .vmem => 22
  | .local .scVector .vmem => 2
  | _ => 0

abbrev bufTy : (tb : Table) → Fin (nBuf tb) → BufTy
  | .hbm, ⟨0, _⟩ => ⟨S32x20, .i32⟩
  | .hbm, ⟨1, _⟩ => ⟨S100000x64, .f32⟩
  | .hbm, ⟨2, _⟩ => ⟨S64x384, .f32⟩
  | .hbm, ⟨3, _⟩ => ⟨S128x384, .f32⟩
  | .hbm, ⟨4, _⟩ => ⟨S2x384, .f32⟩
  | .hbm, ⟨5, _⟩ => ⟨S128x100000, .f32⟩
  | .hbm, ⟨6, _⟩ => ⟨S100000, .f32⟩
  | .hbm, ⟨7, _⟩ => ⟨S20x32, .i32⟩
  | .hbm, ⟨8, _⟩ => ⟨S640, .i32⟩
  | .hbm, ⟨9, _⟩ => ⟨S_, .i32⟩
  | .hbm, ⟨10, _⟩ => ⟨S_, .i32⟩
  | .hbm, ⟨11, _⟩ => ⟨S640, .i32⟩
  | .hbm, ⟨12, _⟩ => ⟨S640, .i32⟩
  | .hbm, ⟨13, _⟩ => ⟨S640, .i32⟩
  | .hbm, ⟨14, _⟩ => ⟨S_, .i32⟩
  | .hbm, ⟨15, _⟩ => ⟨S640, .i32⟩
  | .hbm, ⟨16, _⟩ => ⟨S640, .i1⟩
  | .hbm, ⟨17, _⟩ => ⟨S640, .i32⟩
  | .hbm, ⟨18, _⟩ => ⟨S640, .i32⟩
  | .hbm, ⟨19, _⟩ => ⟨S_, .i32⟩
  | .hbm, ⟨20, _⟩ => ⟨S640, .i32⟩
  | .hbm, ⟨21, _⟩ => ⟨S640, .i1⟩
  | .hbm, ⟨22, _⟩ => ⟨S640, .i1⟩
  | .hbm, ⟨23, _⟩ => ⟨S_, .i32⟩
  | .hbm, ⟨24, _⟩ => ⟨S640, .i32⟩
  | .hbm, ⟨25, _⟩ => ⟨S640, .i32⟩
  | .hbm, ⟨26, _⟩ => ⟨S640, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S640, .i32⟩
  | .hbm, ⟨34, _⟩ => ⟨S640, .i32⟩
  | .hbm, ⟨35, _⟩ => ⟨S_, .i32⟩
  | .hbm, ⟨36, _⟩ => ⟨S640, .i32⟩
  | .hbm, ⟨37, _⟩ => ⟨S640, .i1⟩
  | .hbm, ⟨38, _⟩ => ⟨S_, .i32⟩
  | .hbm, ⟨39, _⟩ => ⟨S640, .i32⟩
  | .hbm, ⟨40, _⟩ => ⟨S640, .i1⟩
  | .hbm, ⟨41, _⟩ => ⟨S_, .i32⟩
  | .hbm, ⟨42, _⟩ => ⟨S_, .i1⟩
  | .hbm, ⟨43, _⟩ => ⟨S640, .i1⟩
  | .hbm, ⟨44, _⟩ => ⟨S640, .i1⟩
  | .hbm, ⟨45, _⟩ => ⟨S640, .i1⟩
  | .hbm, ⟨46, _⟩ => ⟨S640, .i32⟩
  | .hbm, ⟨47, _⟩ => ⟨S640, .i32⟩
  | .hbm, ⟨48, _⟩ => ⟨S640, .i32⟩
  | .hbm, ⟨49, _⟩ => ⟨S640x1, .i32⟩
  | .hbm, ⟨50, _⟩ => ⟨S_, .i32⟩
  | .hbm, ⟨51, _⟩ => ⟨S128, .i32⟩
  | .hbm, ⟨52, _⟩ => ⟨S768, .i32⟩
  | .hbm, ⟨53, _⟩ => ⟨S50000x128, .f32⟩
  | .hbm, ⟨54, _⟩ => ⟨S768x128, .f32⟩
  | .hbm, ⟨55, _⟩ => ⟨S640x128, .f32⟩
  | .hbm, ⟨56, _⟩ => ⟨S32x20x128, .f32⟩
  | .hbm, ⟨57, _⟩ => ⟨S640x128, .f32⟩
  | .hbm, ⟨58, _⟩ => ⟨S1x100000, .f32⟩
  | .hbm, ⟨59, _⟩ => ⟨S640x1, .f32⟩
  | .hbm, ⟨60, _⟩ => ⟨S640x100000, .f32⟩
  | .hbm, ⟨61, _⟩ => ⟨S32x20x100000, .f32⟩
  | .local .tc .vmem, ⟨0, _⟩ => ⟨S640x128, .f32⟩
  | .local .tc .vmem, ⟨1, _⟩ => ⟨S640x1, .i32⟩
  | .local .tc .vmem, ⟨2, _⟩ => ⟨S64x384, .f32⟩
  | .local .tc .vmem, ⟨3, _⟩ => ⟨S128x384, .f32⟩
  | .local .tc .vmem, ⟨4, _⟩ => ⟨S2x384, .f32⟩
  | .local .tc .vmem, ⟨5, _⟩ => ⟨S32x20x128, .f32⟩
  | .local .tc .vmem, ⟨6, _⟩ => ⟨S640x128, .f32⟩
  | .local .tc .vmem, ⟨7, _⟩ => ⟨S128x2048, .f32⟩
  | .local .tc .vmem, ⟨8, _⟩ => ⟨S128x2048, .f32⟩
  | .local .tc .vmem, ⟨9, _⟩ => ⟨S1x2048, .f32⟩
  | .local .tc .vmem, ⟨10, _⟩ => ⟨S1x2048, .f32⟩
  | .local .tc .vmem, ⟨11, _⟩ => ⟨S640x1, .f32⟩
  | .local .tc .vmem, ⟨12, _⟩ => ⟨S640x1, .f32⟩
  | .local .tc .vmem, ⟨13, _⟩ => ⟨S640x1, .f32⟩
  | .local .tc .vmem, ⟨14, _⟩ => ⟨S640x128, .f32⟩
  | .local .tc .vmem, ⟨15, _⟩ => ⟨S128x2048, .f32⟩
  | .local .tc .vmem, ⟨16, _⟩ => ⟨S128x2048, .f32⟩
  | .local .tc .vmem, ⟨17, _⟩ => ⟨S1x2048, .f32⟩
  | .local .tc .vmem, ⟨18, _⟩ => ⟨S1x2048, .f32⟩
  | .local .tc .vmem, ⟨19, _⟩ => ⟨S640x1, .f32⟩
  | .local .tc .vmem, ⟨20, _⟩ => ⟨S640x2048, .f32⟩
  | .local .tc .vmem, ⟨21, _⟩ => ⟨S640x2048, .f32⟩
  | .local .scVector .vmem, ⟨0, _⟩ => ⟨S24, .i32⟩
  | .local .scVector .vmem, ⟨1, _⟩ => ⟨S24x128, .f32⟩
  | _, _ => ⟨S32x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_c_1 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v7_scv : Ref sig .scVector := ⟨.hbm, 53, rfl⟩
abbrev main_v6_scv : Ref sig .scVector := ⟨.hbm, 52, rfl⟩
abbrev main_v8_scv : Ref sig .scVector := ⟨.hbm, 54, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_scratch0 : Ref sig .tc := ⟨.vmem, 12, rfl⟩
abbrev cc2_scratch1 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem4_0 : DmaSem sig := 21
abbrev cc3_sem4_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_3_r1 : BitVec 32 := 0#32
  ![v2.toNat, 0]
abbrev grid1 : Pipeline.Grid := .none

abbrev stage1_0 : Fin 1 → Memref sig .tc .vmem S640x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S640x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x20x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![49], ![false]⟩

def k2_cond2 (i : grid2.Coords) : BitVec 1 :=
  let arg0 : BitVec 32 := BitVec.ofNat 32 (i 0).val
  let c48_i32 : BitVec 32 := 48#32
  let v41 : BitVec 1 := Scalar.cmpi .eq arg0 c48_i32
  let v42 : BitVec 32 := Scalar.extui v41
  let c0_i32_17 : BitVec 32 := 0#32
  let v43 : BitVec 1 := Scalar.cmpi .ne v42 c0_i32_17
  v43

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S640x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S640x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S640x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S640x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S640x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x20 : Shape := ⟨2, ![32, 20]⟩
abbrev S100000x64 : Shape := ⟨2, ![100000, 64]⟩
abbrev S64x384 : Shape := ⟨2, ![64, 384]⟩
abbrev S128x384 : Shape := ⟨2, ![128, 384]⟩
abbrev S2x384 : Shape := ⟨2, ![2, 384]⟩
abbrev S128x100000 : Shape := ⟨2, ![128, 100000]⟩
abbrev S100000 : Shape := ⟨1, ![100000]⟩
abbrev S_ : Shape := ⟨0, ![]⟩
abbrev S32x20x1 : Shape := ⟨3, ![32, 20, 1]⟩
abbrev S1 : Shape := ⟨1, ![1]⟩
abbrev S1x1x1 : Shape := ⟨3, ![1, 1, 1]⟩
abbrev S32x20x64 : Shape := ⟨3, ![32, 20, 64]⟩
abbrev S1x384 : Shape := ⟨2, ![1, 384]⟩
abbrev S384 : Shape := ⟨1, ![384]⟩
abbrev S32x128 : Shape := ⟨2, ![32, 128]⟩
abbrev S20x32x64 : Shape := ⟨3, ![20, 32, 64]⟩
abbrev S20x32x128 : Shape := ⟨3, ![20, 32, 128]⟩
abbrev S1x32x64 : Shape := ⟨3, ![1, 32, 64]⟩
abbrev S32x64 : Shape := ⟨2, ![32, 64]⟩
abbrev S32x384 : Shape := ⟨2, ![32, 384]⟩
abbrev S1x32x128 : Shape := ⟨3, ![1, 32, 128]⟩
abbrev S32x20x128 : Shape := ⟨3, ![32, 20, 128]⟩
abbrev S32x20x100000 : Shape := ⟨3, ![32, 20, 100000]⟩
abbrev S1x1x100000 : Shape := ⟨3, ![1, 1, 100000]⟩

abbrev nBuf : Space → Nat
  | .hbm => 120
  | .vmem => 0
  | .smem => 0
  | _ => 0

abbrev bufTy : (tb : Table) → Fin (tcTables nBuf tb) → BufTy
  | .hbm, ⟨0, _⟩ => ⟨S32x20, .i32⟩
  | .hbm, ⟨1, _⟩ => ⟨S100000x64, .f32⟩
  | .hbm, ⟨2, _⟩ => ⟨S64x384, .f32⟩
  | .hbm, ⟨3, _⟩ => ⟨S128x384, .f32⟩
  | .hbm, ⟨4, _⟩ => ⟨S2x384, .f32⟩
  | .hbm, ⟨5, _⟩ => ⟨S128x100000, .f32⟩
  | .hbm, ⟨6, _⟩ => ⟨S100000, .f32⟩
  | .hbm, ⟨7, _⟩ => ⟨S_, .i32⟩
  | .hbm, ⟨8, _⟩ => ⟨S32x20, .i32⟩
  | .hbm, ⟨9, _⟩ => ⟨S32x20, .i1⟩
  | .hbm, ⟨10, _⟩ => ⟨S_, .i32⟩
  | .hbm, ⟨11, _⟩ => ⟨S32x20, .i32⟩
  | .hbm, ⟨12, _⟩ => ⟨S32x20, .i32⟩
  | .hbm, ⟨13, _⟩ => ⟨S32x20, .i32⟩
  | .hbm, ⟨14, _⟩ => ⟨S32x20x1, .i32⟩
  | .hbm, ⟨15, _⟩ => ⟨S1, .i32⟩
  | .hbm, ⟨16, _⟩ => ⟨S_, .i32⟩
  | .hbm, ⟨17, _⟩ => ⟨S32x20x1, .i32⟩
  | .hbm, ⟨18, _⟩ => ⟨S32x20x1, .i1⟩
  | .hbm, ⟨19, _⟩ => ⟨S1x1x1, .i32⟩
  | .hbm, ⟨20, _⟩ => ⟨S32x20x1, .i32⟩
  | .hbm, ⟨21, _⟩ => ⟨S32x20x1, .i1⟩
  | .hbm, ⟨22, _⟩ => ⟨S32x20x1, .i1⟩
  | .hbm, ⟨23, _⟩ => ⟨S_, .i1⟩
  | .hbm, ⟨24, _⟩ => ⟨S32x20, .i1⟩
  | .hbm, ⟨25, _⟩ => ⟨S32x20x64, .f32⟩
  | .hbm, ⟨26, _⟩ => ⟨S32x20x64, .i1⟩
  | .hbm, ⟨27, _⟩ => ⟨S_, .f32⟩
  | .hbm, ⟨28, _⟩ => ⟨S32x20x64, .f32⟩
  | .hbm, ⟨29, _⟩ => ⟨S32x20x64, .f32⟩
  | .hbm, ⟨30, _⟩ => ⟨S1x384, .f32⟩
  | .hbm, ⟨31, _⟩ => ⟨S384, .f32⟩
  | .hbm, ⟨32, _⟩ => ⟨S1x384, .f32⟩
  | .hbm, ⟨33, _⟩ => ⟨S384, .f32⟩
  | .hbm, ⟨34, _⟩ => ⟨S_, .f32⟩
  | .hbm, ⟨35, _⟩ => ⟨S32x128, .f32⟩
  | .hbm, ⟨36, _⟩ => ⟨S20x32x64, .f32⟩
  | .hbm, ⟨37, _⟩ => ⟨S_, .f32⟩
  | .hbm, ⟨38, _⟩ => ⟨S20x32x128, .f32⟩
  | .hbm, ⟨39, _⟩ => ⟨S_, .i32⟩
  | .hbm, ⟨40, _⟩ => ⟨S20x32x64, .f32⟩
  | .hbm, ⟨41, _⟩ => ⟨S64x384, .f32⟩
  | .hbm, ⟨42, _⟩ => ⟨S384, .f32⟩
  | .hbm, ⟨43, _⟩ => ⟨S128x384, .f32⟩
  | .hbm, ⟨44, _⟩ => ⟨S384, .f32⟩
  | .hbm, ⟨45, _⟩ => ⟨S_, .i32⟩
  | .hbm, ⟨46, _⟩ => ⟨S32x128, .f32⟩
  | .hbm, ⟨47, _⟩ => ⟨S20x32x128, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1x32x64, .f32⟩
  | .hbm, ⟨53, _⟩ => ⟨S32x64, .f32⟩
  | .hbm, ⟨54, _⟩ => ⟨S32x384, .f32⟩
  | .hbm, ⟨55, _⟩ => ⟨S1x384, .f32⟩
  | .hbm, ⟨56, _⟩ => ⟨S32x384, .f32⟩
  | .hbm, ⟨57, _⟩ => ⟨S32x384, .f32⟩
  | .hbm, ⟨58, _⟩ => ⟨S32x384, .f32⟩
  | .hbm, ⟨59, _⟩ => ⟨S1x384, .f32⟩
  | .hbm, ⟨60, _⟩ => ⟨S32x384, .f32⟩
  | .hbm, ⟨61, _⟩ => ⟨S32x384, .f32⟩
  | .hbm, ⟨62, _⟩ => ⟨S32x128, .f32⟩
  | .hbm, ⟨63, _⟩ => ⟨S32x128, .f32⟩
  | .hbm, ⟨64, _⟩ => ⟨S32x128, .f32⟩
  | .hbm, ⟨65, _⟩ => ⟨S32x128, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S32x128, .f32⟩
  | .hbm, ⟨70, _⟩ => ⟨S32x128, .f32⟩
  | .hbm, ⟨71, _⟩ => ⟨S_, .f32⟩
  | .hbm, ⟨72, _⟩ => ⟨S32x128, .f32⟩
  | .hbm, ⟨73, _⟩ => ⟨S32x128, .f32⟩
  | .hbm, ⟨74, _⟩ => ⟨S_, .f32⟩
  | .hbm, ⟨75, _⟩ => ⟨S32x128, .f32⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S32x128, .f32⟩
  | .hbm, ⟨80, _⟩ => ⟨S_, .f32⟩
  | .hbm, ⟨81, _⟩ => ⟨S32x128, .f32⟩
  | .hbm, ⟨82, _⟩ => ⟨S32x128, .f32⟩
  | .hbm, ⟨83, _⟩ => ⟨S_, .f32⟩
  | .hbm, ⟨84, _⟩ => ⟨S32x128, .f32⟩
  | .hbm, ⟨85, _⟩ => ⟨S32x128, .f32⟩
  | .hbm, ⟨86, _⟩ => ⟨S32x128, .f32⟩
  | .hbm, ⟨87, _⟩ => ⟨S32x128, .f32⟩
  | .hbm, ⟨88, _⟩ => ⟨S32x128, .f32⟩
  | .hbm, ⟨89, _⟩ => ⟨S32x128, .f32⟩
  | .hbm, ⟨90, _⟩ => ⟨S_, .f32⟩
  | .hbm, ⟨91, _⟩ => ⟨S32x128, .f32⟩
  | .hbm, ⟨92, _⟩ => ⟨S32x128, .f32⟩
  | .hbm, ⟨93, _⟩ => ⟨S32x128, .f32⟩
  | .hbm, ⟨94, _⟩ => ⟨S32x128, .f32⟩
  | .hbm, ⟨95, _⟩ => ⟨S1x32x128, .f32⟩
  | .hbm, ⟨96, _⟩ => ⟨S_, .i32⟩
  | .hbm, ⟨97, _⟩ => ⟨S_, .i32⟩
  | .hbm, ⟨98, _⟩ => ⟨S20x32x128, .f32⟩
  | .hbm, ⟨99, _⟩ => ⟨S_, .i32⟩
  | .hbm, ⟨100, _⟩ => ⟨S_, .i32⟩
  | .hbm, ⟨101, _⟩ => ⟨S32x20x128, .f32⟩
  | .hbm, ⟨102, _⟩ => ⟨S32x20x100000, .f32⟩
  | .hbm, ⟨103, _⟩ => ⟨S1x1x100000, .f32⟩
  | .hbm, ⟨104, _⟩ => ⟨S32x20x100000, .f32⟩
  | .hbm, ⟨105, _⟩ => ⟨S32x20x100000, .f32⟩
  | .hbm, ⟨106, _⟩ => ⟨S_, .f32⟩
  | .hbm, ⟨107, _⟩ => ⟨S32x20, .f32⟩
  | .hbm, ⟨108, _⟩ => ⟨S_, .f32⟩
  | .hbm, ⟨109, _⟩ => ⟨S32x20, .f32⟩
  | .hbm, ⟨110, _⟩ => ⟨S32x20, .f32⟩
  | .hbm, ⟨111, _⟩ => ⟨S32x20x1, .f32⟩
  | .hbm, ⟨112, _⟩ => ⟨S32x20x100000, .f32⟩
  | .hbm, ⟨113, _⟩ => ⟨S32x20x100000, .f32⟩
  | .hbm, ⟨114, _⟩ => ⟨S32x20x100000, .f32⟩
  | .hbm, ⟨115, _⟩ => ⟨S_, .f32⟩
  | .hbm, ⟨116, _⟩ => ⟨S32x20, .f32⟩
  | .hbm, ⟨117, _⟩ => ⟨S32x20x1, .f32⟩
  | .hbm, ⟨118, _⟩ => ⟨S32x20x100000, .f32⟩
  | .hbm, ⟨119, _⟩ => ⟨S32x20x100000, .f32⟩
  | _, _ => ⟨S32x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_c : Ref sig .tc := ⟨.hbm, 39, rfl⟩
abbrev main_v8_0 : Ref sig .tc := ⟨.hbm, 40, rfl⟩
abbrev main_v8_1 : Ref sig .tc := ⟨.hbm, 41, rfl⟩
abbrev main_v8_2 : Ref sig .tc := ⟨.hbm, 42, rfl⟩
abbrev main_v8_3 : Ref sig .tc := ⟨.hbm, 43, rfl⟩
abbrev main_v8_4 : Ref sig .tc := ⟨.hbm, 44, rfl⟩
abbrev main_v8_5 : Ref sig .tc := ⟨.hbm, 45, rfl⟩
abbrev main_v8_6 : Ref sig .tc := ⟨.hbm, 46, rfl⟩
abbrev main_v8_7 : Ref sig .tc := ⟨.hbm, 47, rfl⟩
abbrev main_while0c_c_11 : Ref sig .tc := ⟨.hbm, 48, rfl⟩
abbrev main_while0c_v25 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_v0 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_cst_11 : Ref sig .tc := ⟨.hbm, 71, rfl⟩
abbrev main_while0b_v43 : Ref sig .tc := ⟨.hbm, 72, rfl⟩
abbrev main_while0b_v44 : Ref sig .tc := ⟨.hbm, 73, rfl⟩
abbrev main_while0b_cst_12 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_cst_13 : Ref sig .tc := ⟨.hbm, 80, rfl⟩
abbrev main_while0b_v50 : Ref sig .tc := ⟨.hbm, 81, rfl⟩
abbrev main_while0b_v51 : Ref sig .tc := ⟨.hbm, 82, rfl⟩
abbrev main_while0b_cst_14 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_cst_15 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_call2_v0 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_v62 : Ref sig .tc := ⟨.hbm, 98, rfl⟩
abbrev main_while0b_c_16 : Ref sig .tc := ⟨.hbm, 99, rfl⟩
abbrev main_while0b_v63 : Ref sig .tc := ⟨.hbm, 100, rfl⟩
abbrev main_v9 : Ref sig .tc := ⟨.hbm, 101, rfl⟩
abbrev main_v10 : Ref sig .tc := ⟨.hbm, 102, rfl⟩
abbrev main_v11 : Ref sig .tc := ⟨.hbm, 103, rfl⟩
abbrev main_v12 : Ref sig .tc := ⟨.hbm, 104, rfl⟩
abbrev main_v13 : Ref sig .tc := ⟨.hbm, 105, rfl⟩
abbrev main_cst_1 : Ref sig .tc := ⟨.hbm, 106, rfl⟩
abbrev main_v14 : Ref sig .tc := ⟨.hbm, 107, rfl⟩
abbrev main_cst_2 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_cst_3 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩

abbrev nD : Nat := 1
abbrev τ : Topo := Topo.v7x

variable {F : FTy → Type} [FloatOps F]

abbrev main_while0_count : Scf.Loop 32 := ⟨0#32, 20#32, 1#32⟩
-- ==== Proof.Tile.lean ====
/-
  The SparseCore call of the embedding lookup: thirty-two tasks, two SparseCores by sixteen vector subcores. Task
  `2 s + c` (subcore `s` of core `c`) fetches its 24 words of the index list, gathers the 24 rows of the table they name by
  one indirect stream, and writes them to its 24 rows of the result. Here: one task's run, from what it is handed to what it
  gives back, with the CONTENTS of the rows it leaves (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 3) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The printed facts. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The ghost state of the three TensorCore pipelines' cells. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The three arrays, and their division among the tasks -/

abbrev iLoc (d : Dev nD) : Loc nD τ sig := (SparseCore.T d).loc main_v6
abbrev xLoc (d : Dev nD) : Loc nD τ sig := (SparseCore.T d).loc main_v7
abbrev oLoc (d : Dev nD) : Loc nD τ sig := (SparseCore.T d).loc main_v8

local notation "iV" => (Memref.whole Cert.KernelIdeal.main_v6_scv : Memref Cert.KernelIdeal.sig Kind.scVector Space.hbm Cert.KernelIdeal.S768 EltTy.i32)
local notation "xV" => (Memref.whole Cert.KernelIdeal.main_v7_scv : Memref Cert.KernelIdeal.sig Kind.scVector Space.hbm Cert.KernelIdeal.S50000x128 EltTy.f32)
local notation "oV" => (Memref.whole Cert.KernelIdeal.main_v8_scv : Memref Cert.KernelIdeal.sig Kind.scVector Space.hbm Cert.KernelIdeal.S768x128 EltTy.f32)
local notation "sV" => (Memref.whole Cert.KernelIdeal.cc0_scratch0 : Memref Cert.KernelIdeal.sig Kind.scVector Space.vmem Cert.KernelIdeal.S24 EltTy.i32)
local notation "rV" => (Memref.whole Cert.KernelIdeal.cc0_scratch1 : Memref Cert.KernelIdeal.sig Kind.scVector Space.vmem Cert.KernelIdeal.S24x128 EltTy.f32)

/-- The worker’s rows are whole rows. -/
theorem idiv : 32 ∣ S768.size 0 := ⟨24, rfl⟩
/-- The worker’s rows are whole rows. -/
theorem odiv : 32 ∣ S768x128.size 0 := ⟨24, rfl⟩
/-- Task `w`'s 24 words of the index list and 24 rows of the result. -/
abbrev irow (w : Fin 32) : Rect S768 := Rect.part (s := S768) (a₀ := 0) idiv w
abbrev orow (w : Fin 32) : Rect S768x128 := Rect.part (s := S768x128) (a₀ := 0) odiv w
abbrev iRowSet (w : Fin 32) : Finset S768.Idx := ((iV).view.slice (irow w)).set
abbrev oRowSet (w : Fin 32) : Finset S768x128.Idx := ((oV).view.slice (orow w)).set
/-- Task `w`'s share of the table. -/
abbrev xq (w : Fin 32) : PosShare TreeShare := leaf 5 fullShare w

/-- The table row a word names: the word's number (row 0 for a word out of range, which no run of this program reads). -/
def rowOf (w : BitVec 32) : Fin 50000 := if h : w.toNat < 50000 then ⟨w.toNat, h⟩ else ⟨0, by decide⟩
/-- The looked-up rows: row `r` of the result is the table's row named by word `r` of the index list. -/
def gathered {α : Type} (ci : S768.Idx → BitVec 32) (cx : S50000x128.Idx → α) : S768x128.Idx → α :=
  fun j => cx (fun | 0 => rowOf (ci (fun | 0 => j 0)) | 1 => j 1)

-- the contents of the index list, of the table and of the result at the call
variable (ci : (d : Dev nD) → Buf (Elt F) (iLoc d)) (cx : (d : Dev nD) → Buf (Elt F) (xLoc d)) (co : (d : Dev nD) → Buf (Elt F) (oLoc d))

/-- The rows the call leaves in the result. -/
abbrev got (d : Dev nD) : Buf (Elt F) (oLoc d) := gathered (α := Elt F .f32) (ci d) (cx d)

/-- Every word of the index list names a row. -/
def PreOK : Prop := ∀ (d : Dev nD) (j : S768.Idx), (ci d j : BitVec 32).toNat < 50000

/-- What task `w` holds of the three arrays, the result's rows at `f`. -/
abbrev job (d : Dev nD) (w : Fin 32) (f : Buf (Elt F) (oLoc d)) : sProp 𝕄 :=
  iprop((iLoc d ↦[iRowSet w]{fullShare} ci d) ∗ (xLoc d ↦{xq w} cx d) ∗ oLoc d ↦[oRowSet w]{fullShare} f)

/-! ## The task's own names for its slices -/

variable [FloatOps F] [Named F]

section Tile

variable (d : Dev nD) (L : grid0.Coords)

abbrev cV (L : grid0.Coords) : Fin τ.nSC := (L 0).castLE hcore0
abbrev jV (L : grid0.Coords) : Fin τ.nSub := (L 1).castLE hsub0
/-- The number of the task at grid coordinates `L`. -/
def wid (L : grid0.Coords) : Fin 32 := ⟨2 * (L 1).val + (L 0).val, by
  have h0 : (L 0).val < 2 := (L 0).isLt; have h1 : (L 1).val < 16 := (L 1).isLt; omega⟩

abbrev irowK (L : grid0.Coords) : Rect S768 := Rect.unit (s := S768) (k0_off1 L) S24.size (k0_off1_inb L)
abbrev orowK (L : grid0.Coords) : Rect S768x128 := Rect.unit (s := S768x128) (k0_off2 L) S24x128.size (k0_off2_inb L)
abbrev iRowK (L : grid0.Coords) : Memref sig .scVector .hbm S24 .i32 := (iV).slice (irowK L) (fun _ => rfl)
abbrev oRowK (L : grid0.Coords) : Memref sig .scVector .hbm S24x128 .f32 := (oV).slice (orowK L) (fun _ => rfl)
abbrev xAllK : Memref sig .scVector .hbm S50000x128 .f32 := (xV).slice (Rect.unit (s := S50000x128) ![0, 0] S50000x128.size inb_S50000x128_S50000x128_0_0) (fun _ => rfl)

omit [FloatOps F] [Named F] in
/-- The words the task addresses are its part of the list. -/
theorem irowK_eq : irowK L = irow (wid L) := by
  unfold irowK irow Rect.part Rect.block
  congr 1 <;> funext a
  · rw [k0_off1_eq]
    match a with
    | 0 => simp [Shape.partIx, Shape.partSize, wid]; omega
  · match a with
    | 0 => simp [Shape.partSize]
omit [FloatOps F] [Named F] in
/-- The rows the task addresses are its part of the result. -/
theorem orowK_eq : orowK L = orow (wid L) := by
  unfold orowK orow Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

omit [FloatOps F] [Named F] in
/-- The worker’s rows as a set of places. -/
theorem set_iRowK : (iRowK L).view.set = iRowSet (wid L) := by
  show ((iV).view.slice (irowK L)).set = ((iV).view.slice (irow (wid L))).set
  exact irowK_eq L ▸ rfl
omit [FloatOps F] [Named F] in
/-- The worker’s rows as a set of places. -/
theorem set_oRowK : (oRowK L).view.set = oRowSet (wid L) := by
  show ((oV).view.slice (orowK L)).set = ((oV).view.slice (orow (wid L))).set
  exact orowK_eq L ▸ rfl

omit [FloatOps F] [Named F] in
/-- Holding this piece is holding its places. -/
theorem pts_iRowK (f : Buf (Elt F) (iLoc d)) :
    ((iRowK L).view.loc (V d (cV L) (jV L)) ↦[(iRowK L).view.set]{fullShare} f : sProp 𝕄) = iLoc d ↦[iRowSet (wid L)]{fullShare} f := by
  rw [set_iRowK]
omit [FloatOps F] [Named F] in
/-- Holding this piece is holding its places. -/
theorem pts_oRowK (f : Buf (Elt F) (oLoc d)) :
    ((oRowK L).view.loc (V d (cV L) (jV L)) ↦[(oRowK L).view.set]{fullShare} f : sProp 𝕄) = oLoc d ↦[oRowSet (wid L)]{fullShare} f := by
  rw [set_oRowK]
omit [FloatOps F] [Named F] in
/-- Holding this piece is holding its places. -/
theorem pts_xV (q : PosShare TreeShare) (f : Buf (Elt F) (xLoc d)) :
    ((xV).view.loc (V d (cV L) (jV L)) ↦{q} f : sProp 𝕄) = xLoc d ↦{q} f := rfl
omit [FloatOps F] [Named F] in
/-- Holding this piece is holding its places. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] [Named F] in
/-- Holding this piece is holding its places. -/
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] [Named F] in
/-- The three semaphores of the task's transfers are among its subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] [Named F] in
/-- The two scratch buffers are among the subcore's own, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The values the task moves -/

omit [FloatOps F] [Named F] in
/-- What the index fetch lands in its scratch: the task's words of the list. -/
theorem fetched (fs : Buf (Elt F) ((V d (cV L) (jV L)).loc cc0_scratch0)) (pay : S24.Idx → Elt F .i32)
    (hpay : pay = (iRowK L).view.read (Elt F) (ci d)) (x : S24.Idx) :
    (sV).view.read (Elt F) (View.write (Elt F) (sV).view fs pay Finset.univ) x = ci d ((irowK L).emb x) := by
  subst hpay
  rw [View.write_whole_univ]
  simp only [Memref.view_whole, View.read_whole]
  exact (View.read_apply _ _).trans (cast_eq _ _)

omit [FloatOps F] [Named F] in
/-- The words fetched name rows. -/
theorem inb_of_pre (hpre : PreOK ci) (fs : Buf (Elt F) ((V d (cV L) (jV L)).loc cc0_scratch0)) (pay : S24.Idx → Elt F .i32)
    (hpay : pay = (iRowK L).view.read (Elt F) (ci d)) :
    ∀ x, ((sV).view.read (Elt F) (View.write (Elt F) (sV).view fs pay Finset.univ) x).toNat < S50000x128.size gathers_S50000x128_S24x128.axis := by
  intro x
  rw [fetched ci d L fs pay hpay]
  exact hpre d _

omit [FloatOps F] [Named F] in
/-- The rows the task writes out are the looked-up rows: on its part of the result. -/
theorem written (hpre : PreOK ci) (fs : Buf (Elt F) ((V d (cV L) (jV L)).loc cc0_scratch0)) (fr : Buf (Elt F) ((V d (cV L) (jV L)).loc cc0_scratch1))
    (pay : S24.Idx → Elt F .i32) (hpay : pay = (iRowK L).view.read (Elt F) (ci d))
    (pay' : S24x128.Idx → Elt F .f32)
    (hpay' : pay' = (rV).view.read (Elt F) (View.write (Elt F) (rV).view fr
      (SparseCore.gatherPayload gathers_S50000x128_S24x128 ((xAllK).view.read (Elt F) (cx d))
        (SparseCore.rows ((sV).view.read (Elt F) (View.write (Elt F) (sV).view fs pay Finset.univ)) rfl (inb_of_pre ci d L hpre fs pay hpay))) Finset.univ)) :
    ∀ j ∈ oRowSet (wid L), ((oRowK L).view.writes (Elt F) (co d) [⟨Rect.whole S24x128, pay'⟩]) j = got ci cx d j := by
  intro j hj
  rw [← set_oRowK] at hj
  obtain ⟨x, -, rfl⟩ := Finset.mem_map.mp hj
  have hwh : (Rect.whole S24x128).emb x = x := by
    funext a; exact Fin.ext (by rw [Rect.emb_apply]; show 0 + 1 * _ = _; rw [one_mul, zero_add])
  have hw1 : ((oRowK L).view.writes (Elt F) (co d) [⟨Rect.whole S24x128, pay'⟩]) ((oRowK L).view.emb x) = pay' x := by
    refine (congrArg _ (congrArg (oRowK L).view.emb hwh.symm)).trans ?_
    exact (View.write_emb_of_mem (v := (oRowK L).view.slice (Rect.whole S24x128)) _ _ (Finset.mem_univ x)).trans (cast_eq _ _)
  refine hw1.trans ?_
  subst hpay'
  rw [View.write_whole_univ]
  simp only [Memref.view_whole, View.read_whole]
  unfold SparseCore.gatherPayload
  refine ((View.read_apply _ _).trans (cast_eq _ _)).trans ?_
  unfold got gathered
  refine congrArg (cx d) ?_
  have hlin : ∀ k : Fin 24, ((S24.rowMajor.symm (k.cast rfl)) 0).val = k.val := by
    intro k
    have h := congrArg Fin.val (S24.rowMajor.apply_symm_apply (k.cast rfl))
    exact (Shape.rowMajor_val_one _).symm.trans h
  have hi0 : ∀ y : S24.Idx, ((irowK L).emb y 0).val = 48 * (L 1).val + 24 * (L 0).val + (y 0).val := by
    intro y
    rw [Rect.emb_apply, show (irowK L).off 0 = (k0_off1 L) 0 from rfl, k0_off1_eq]
    show _ + 1 * _ = _
    rw [one_mul]; rfl
  have ho0 : ((oRowK L).view.emb x 0).val = 48 * (L 1).val + 24 * (L 0).val + (x 0).val := by
    show ((orowK L).emb x 0).val = _
    rw [Rect.emb_apply, show (orowK L).off 0 = (k0_off2 L) 0 from rfl, k0_off2_eq]
    show _ + 1 * _ = _
    rw [one_mul]; rfl
  have ho1 : ((oRowK L).view.emb x 1).val = (x 1).val := by
    show ((orowK L).emb x 1).val = _
    rw [Rect.emb_apply, show (orowK L).off 1 = (k0_off2 L) 1 from rfl, k0_off2_eq]
    show 0 + 1 * _ = _
    rw [one_mul, zero_add]
  have hx : ∀ (y : S50000x128.Idx) (a : Fin 2), ((xAllK).view.emb y a).val = (y a).val := by
    intro y a
    show ((Rect.unit (s := S50000x128) ![0, 0] S50000x128.size inb_S50000x128_S50000x128_0_0).emb y a).val = _
    rw [Rect.emb_apply]
    match a with
    | 0 => show 0 + 1 * _ = _; rw [one_mul, zero_add]
    | 1 => show 0 + 1 * _ = _; rw [one_mul, zero_add]
  funext b
  refine Fin.ext ?_
  rw [hx]
  match b with
  | 0 =>
    refine (congrArg Fin.val (Shape.Gathers.idx_axis gathers_S50000x128_S24x128 _ x)).trans ?_
    show ((sV).view.read (Elt F) (View.write (Elt F) (sV).view fs pay Finset.univ) (S24.rowMajor.symm ((x 0).cast rfl))).toNat = _
    rw [fetched ci d L fs pay hpay]
    have hw : (irowK L).emb (S24.rowMajor.symm ((x 0).cast rfl)) = (fun | 0 => (oRowK L).view.emb x 0 : S768.Idx) := by
      funext a
      match a with
      | 0 => exact Fin.ext (by rw [hi0, hlin (x 0)]; exact ho0.symm)
    rw [hw]
    show _ = (rowOf (ci d _)).val
    unfold rowOf
    rw [dif_pos (hpre d _)]
  | 1 =>
    exact (Shape.Gathers.idx_of_ne gathers_S50000x128_S24x128 _ x 1 (by decide)).trans ho1.symm

end Tile

end Cert.Proof.Lookup

end
-- ==== Proof.Task.lean ====
/-
  One task of the lookup, run: from the words, the share of the table and the rows of the result it is handed to the same with
  its rows at the looked-up ones.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v6_scv : Memref Cert.KernelIdeal.sig Kind.scVector Space.hbm Cert.KernelIdeal.S768 EltTy.i32)
local notation "xV" => (Memref.whole Cert.KernelIdeal.main_v7_scv : Memref Cert.KernelIdeal.sig Kind.scVector Space.hbm Cert.KernelIdeal.S50000x128 EltTy.f32)
local notation "oV" => (Memref.whole Cert.KernelIdeal.main_v8_scv : Memref Cert.KernelIdeal.sig Kind.scVector Space.hbm Cert.KernelIdeal.S768x128 EltTy.f32)
local notation "sV" => (Memref.whole Cert.KernelIdeal.cc0_scratch0 : Memref Cert.KernelIdeal.sig Kind.scVector Space.vmem Cert.KernelIdeal.S24 EltTy.i32)
local notation "rV" => (Memref.whole Cert.KernelIdeal.cc0_scratch1 : Memref Cert.KernelIdeal.sig Kind.scVector Space.vmem Cert.KernelIdeal.S24x128 EltTy.f32)

variable (ci : (d : Dev nD) → Buf (Elt F) (iLoc d)) (cx : (d : Dev nD) → Buf (Elt F) (xLoc d)) (co : (d : Dev nD) → Buf (Elt F) (oLoc d))
variable [FloatOps F] [Named F]
variable (d : Dev nD) (L : grid0.Coords)

set_option maxHeartbeats 4000000 in
/-- One task's run: the index fetch and its wait, the indirect gather and its wait, the write-out and its wait; its rows of
    the result end at the looked-up rows. -/
theorem tile_body (hF : (K (F := F)).Facts) (hpre : PreOK ci) (O : CellTallies nD τ sig (HIx 1)) (W : Waits sig (HIx 1)) (hO : ∀ g, O g none = 0) :
    iprop(levAts (K (F := F)).L (K (F := F)).lev ∗ emp ∗ job ci cx d (wid L) (co d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_gather L xV (Memref.isWhole_whole _) iV (Memref.isWhole_whole _) oV (Memref.isWhole_whole _)
            sV (Memref.isWhole_whole _) rV (Memref.isWhole_whole _) cc0_scratch2 cc0_scoped0 cc0_scoped1)
          fun _ => iprop(job ci cx d (wid L) (got ci cx d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_gather_eq_skeleton]; unfold cc0__emb_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather is issued: the share of the table it reads, the row buffer, the list and the counter go in
  ihave Hxs := (pointsTo_split_subset (q := xq (wid L)) (f := cx d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ci d L) Finset.univ : sProp 𝕄)
      = (sV).view.loc (V d (cV L) (jV L)) ↦[(sV).view.set]{fullShare} View.write (Elt F) (sV).view fs (tile_body.sl.dma0 ci d L) Finset.univ
      by rw [hss])) $$ Hs'
  have hN : ∀ h : S50000x128.Gathers 0 S24x128, ∑ j, ((rV).slice (S24x128.rowRect h.axis' j) (S24x128.stride_rowRect h.axis' j)).view.dmaCredit
      = (rV).view.dmaCredit := by decide
  iapply (SparseCore.wp_indirectGatherLocal countersEmb 𝒱₀ (V d (cV L) (jV L)) none (hg := gathers_S50000x128_S24x128) (default : HIx 1)
      (rV).view.dmaCredit (hN _) (by decide) (inb_of_pre ci d L hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (wid L)) (f := cx d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    ihave Ho2 := (Entails.of_eq (pts_oRowK (F := F) d L _)) $$ Ho'
    iapply (Entails.of_eq (pointsTo_congr (written ci cx co d L hpre fs fr _ rfl _ rfl)))
    iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Lookup

end
-- ==== Proof.Call.lean ====
/-
  The SparseCore call, whole: the three arrays dealt to the thirty-two tasks and joined again, the result's rows at the
  looked-up ones.
-/
module

public import proofs.«01_k».proof.Proof.Task

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v6_scv : Memref Cert.KernelIdeal.sig Kind.scVector Space.hbm Cert.KernelIdeal.S768 EltTy.i32)
local notation "xV" => (Memref.whole Cert.KernelIdeal.main_v7_scv : Memref Cert.KernelIdeal.sig Kind.scVector Space.hbm Cert.KernelIdeal.S50000x128 EltTy.f32)
local notation "oV" => (Memref.whole Cert.KernelIdeal.main_v8_scv : Memref Cert.KernelIdeal.sig Kind.scVector Space.hbm Cert.KernelIdeal.S768x128 EltTy.f32)
local notation "sV" => (Memref.whole Cert.KernelIdeal.cc0_scratch0 : Memref Cert.KernelIdeal.sig Kind.scVector Space.vmem Cert.KernelIdeal.S24 EltTy.i32)
local notation "rV" => (Memref.whole Cert.KernelIdeal.cc0_scratch1 : Memref Cert.KernelIdeal.sig Kind.scVector Space.vmem Cert.KernelIdeal.S24x128 EltTy.f32)

variable (ci : (d : Dev nD) → Buf (Elt F) (iLoc d)) (cx : (d : Dev nD) → Buf (Elt F) (xLoc d)) (co : (d : Dev nD) → Buf (Elt F) (oLoc d))

/-! ## The handshakes' payloads -/

/-- Subcore `s` of core `c` runs task `2 s + c`. -/
def taskNo (c : Fin 2) (s : Fin 16) : Fin 32 := ⟨2 * s.val + c.val, by omega⟩

/-- What one core's sixteen tasks hold, the result's rows at `f`. -/
abbrev coreJobs (d : Dev nD) (c : Fin 2) (f : Buf (Elt F) (oLoc d)) : sProp 𝕄 :=
  bigSep Finset.univ fun s : Fin 16 => job ci cx d (taskNo c s) f

/-- A core is started with its sixteen tasks' pieces and done with them; a task is given its own. -/
def P : (K (F := F)).Pay (nD := nD) (Val := Elt F) (Name := ℕ) (U := UU) where
  st := fun q d c => match q with | 0 => coreJobs ci cx d c (co d)
  dn := fun q d c => match q with | 0 => coreJobs ci cx d c (got ci cx d)
  go := fun q d c i => match q with | 0 => job ci cx d (taskNo c i) (co d)
  td := fun q d c i => match q with | 0 => job ci cx d (taskNo c i) (got ci cx d)
  x := fun _ _ => iprop(emp)

instance P_storable : (P (F := F) ci cx co).IsStorable where
  st q d c := match q with
    | 0 => (inferInstance : BI.Storable (upEmb : UEmb _ 𝕄) (coreJobs ci cx d c (co d)))
  dn q d c := match q with
    | 0 => (inferInstance : BI.Storable (upEmb : UEmb _ 𝕄) (coreJobs ci cx d c (got ci cx d)))
  go q d c i := match q with
    | 0 => (inferInstance : BI.Storable (upEmb : UEmb _ 𝕄) (job ci cx d (taskNo c i) (co d)))
  td q d c i := match q with
    | 0 => (inferInstance : BI.Storable (upEmb : UEmb _ 𝕄) (job ci cx d (taskNo c i) (got ci cx d)))

variable [FloatOps F] [Named F]

/-! ## The tasks' obligation -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's body on a vector subcore, at its grid point. -/
theorem defs₀_vector (c : Fin τ.nSC) (s : Fin τ.nSub) :
    defs₀ (F := F) (.scVector c s) 0 ()
      = SparseCore.onTile hcore0 hsub0 (fun c s => cc0__emb_gather (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] [Named F] in
/-- A wait at no handshake may be counted as one of the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its part of the handshake. -/
theorem tileObl (hF : (K (F := F)).Facts) (hpre : PreOK ci) : (K (F := F)).TileObl (D (F := F)) 𝒱 (P ci cx co) v₀ 0 := by
  intro d c i O W hO _ _
  simp only [show (P ci cx co).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ci cx co d (coordsV ⟨_, hci.1⟩ ⟨_, hci.2⟩) hF hpre O W hO).trans (wp_mono frame _ _ fun _ => obl_post)

/-! ## The arrays dealt and joined -/

omit [FloatOps F] [Named F] in
/-- The rows of one worker, as a set of places. -/
theorem iRowSet_eq (i : Fin 32) : iRowSet i = (irow i).set := by
  show ((View.whole (main_v6_scv : Ref sig .scVector)).slice (irow i)).set = _
  rw [View.set_slice]; exact Finset.map_refl
omit [FloatOps F] [Named F] in
/-- The rows of one worker, as a set of places. -/
theorem oRowSet_eq (i : Fin 32) : oRowSet i = (orow i).set := by
  show ((View.whole (main_v8_scv : Ref sig .scVector)).slice (orow i)).set = _
  rw [View.set_slice]; exact Finset.map_refl
omit [FloatOps F] [Named F] in
/-- The index list is its thirty-two parts. -/
theorem iPts_parts (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet
    (fun i _ j _ h => by rw [iRowSet_eq, iRowSet_eq]; exact Rect.part_disjoint idiv h),
    (Finset.biUnion_congr rfl fun i _ => iRowSet_eq i).trans (Rect.biUnion_part idiv)]; try rfl
omit [FloatOps F] [Named F] in
/-- The result is its thirty-two parts. -/
theorem oPts_parts (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet
    (fun i _ j _ h => by rw [oRowSet_eq, oRowSet_eq]; exact Rect.part_disjoint odiv h),
    (Finset.biUnion_congr rfl fun i _ => oRowSet_eq i).trans (Rect.biUnion_part odiv)]; try rfl

/-- Core and subcore against the task's number. -/
def taskEquiv : Fin 2 × Fin 16 ≃ Fin 32 := (Equiv.prodComm _ _).trans finProdFinEquiv
omit [FloatOps F] [Named F] in
/-- The worker that a core and a subcore make up. -/
theorem taskEquiv_apply (c : Fin 2) (s : Fin 16) : taskEquiv (c, s) = taskNo c s := by
  refine Fin.ext ?_
  show c.val + 2 * s.val = 2 * s.val + c.val
  omega

omit [FloatOps F] [Named F] in
/-- The three arrays whole are the two cores' jobs. -/
theorem arrays_eq (d : Dev nD) (f : Buf (Elt F) (oLoc d)) :
    (iprop((iLoc d ↦{fullShare} ci d) ∗ (xLoc d ↦{fullShare} cx d) ∗ oLoc d ↦{fullShare} f) : sProp 𝕄)
      = bigSep Finset.univ fun c : Fin 2 => coreJobs ci cx d c f := by
  rw [iPts_parts, oPts_parts, show (xLoc d ↦{fullShare} cx d : sProp 𝕄) = bigSep Finset.univ fun i : Fin 32 => xLoc d ↦{xq i} cx d from
    pointsTo_leaves Finset.univ (cx d) 5 fullShare, ← bigSep_sep', ← bigSep_sep', bigSep_univ_equiv taskEquiv, bigSep_univ_prod]
  refine bigSep_congr fun c _ => bigSep_congr fun s _ => ?_
  rw [taskEquiv_apply]

/-- A core's holdings are its tasks', before and after. -/
theorem vecSplit : (K (F := F)).VecSplit' (P ci cx co) 0 := by
  intro d c
  show coreJobs ci cx d c (co d) ⊢ |={Set.univ}=> iprop(coreJobs ci cx d c (co d) ∗ (coreJobs ci cx d c (got ci cx d) -∗ coreJobs ci cx d c (got ci cx d)))
  iintro H; imodintro
  isplitl [H]; · iexact H
  iintro H; iexact H

/-! ## The call -/

/-- The call on the TensorCore: from the three arrays whole, to them with the result at the looked-up rows. -/
theorem call_run (κ : GSem nD τ sig → ℕ) (d : Dev nD) {Φ : PUnit → sProp 𝕄} :
    iprop((K (F := F)).ctx EH (P ci cx co) κ ∗ (K (F := F)).tcSt EH d 0
        ∗ ((iLoc d ↦{fullShare} ci d) ∗ (xLoc d ↦{fullShare} cx d) ∗ oLoc d ↦{fullShare} co d)
        ∗ (((K (F := F)).tcSt EH d 1 ∗ (iLoc d ↦{fullShare} ci d) ∗ (xLoc d ↦{fullShare} cx d) ∗ oLoc d ↦{fullShare} got ci cx d) -∗ Φ ⟨⟩))
      ⊢ wp frame (wpE ((K (F := F)).defs (D (F := F))) 𝒱 (SparseCore.T d) none) Set.univ ((K (F := F)).run d 0) Φ := by
  rw [arrays_eq ci cx d (co d), arrays_eq ci cx d (got ci cx d)]
  exact (K (F := F)).wp_run (D (F := F)) 𝒱 (EH := EH) (P := P ci cx co) κ d 0

end Cert.Proof.Lookup

end
-- ==== Proof.Region.lean ====
/-
  A TensorCore pipeline of @main entered from any contents of the launch's buffers: its arrays are taken out of them at
  their contents, and put back at contents they may hold once every block has been written back. What a kernel must show
  for it is its body's part at each point and what it keeps between the points.
-/
module

public import proofs.«01_k».proof.Proof.Call
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.RegionArrays
public import Idealize.ShloMosaic.Lib.Pipeline.FrameBody
public import Idealize.ShloMosaic.Lib.Pipeline.Value
public import Idealize.ShloMosaic.Lib.Tactic

@[expose] public section

noncomputable section

namespace Cert.Proof.Lookup

open Cert.KernelIdeal Cert.KernelIdeal.Gen

open Idealize.ShloMosaic
open Idealize.ShloMosaic.SparseCore.Cfg (HIx)
open Idealize.ShloMosaic.Pipeline (RDat arrRef pin)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- Memref `M`'s buffer on core `c` held whole at `f`. -/
abbrev ptw (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The offset of two zeros. -/
theorem hz2 : (![0, 0] : Fin 2 → Nat) = fun _ => 0 := by funext a; fin_cases a <;> rfl

/-- A whole memref owned is its buffer held whole, at contents that read so. -/
theorem owns_iff (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ ptw c M f) := by
  obtain ⟨b, rfl, rfl, rfl, hm⟩ := h
  cases hm
  unfold owns; simp only [Memref.view_whole, View.set_whole]

/-- What a whole store leaves, whatever the earlier stores were. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩, View.canon_cons_unit_zero h]

/-- What a whole load reads. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- Where the pipelines' cells live in the ghost state. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_lands : (EP : Emb UP (MT nD τ sig (HIx 1) (Elt F) ℕ UU ℕ)).LandsIn (upEmb : UEmb _ (MT nD τ sig (HIx 1) (Elt F) ℕ UU ℕ)) := by
  unfold EP embR; infer_instance

/-- No pipeline of the program has tables fetched ahead of it. -/
abbrev adm : (p : Fin 3) → (pcfgs (F := F) p).Adm := fun p => (cfgs p).toPCfg_adm

/-- No wait of a pipeline is on a cell another thread owes. -/
abbrev noLevs : GSem nD τ sig → Finset (HIx 1) := fun _ => ∅
abbrev lv0 : GSem nD τ sig → HIx 1 → ℕ := fun _ _ => 0

/-- The waits a core may have recorded once the call is over. -/
def lowPairs (c : Dev nD) : Set (SemLoc sig × HIx 1) := {p | (K (F := F)).lev ((c.tc : Thread nD τ), p.1) p.2 ≤ 8}
/-- The core owes nothing, and has recorded only those. -/
def owesLow (c : Dev nD) : sProp 𝕄 := iprop(∃ W, ⌜(K (F := F)).WBelow (c.tc : Thread nD τ) W 8⌝ ∗ owes (c.tc : Thread nD τ) (0 : CellTallies nD τ sig (HIx 1)) W)

variable {p : Fin 3} (V : Valuation τ sig (Elt F))
  (rd : (c : Dev nD) → RDat τ (Elt F) (HIx 1) ℕ UU ℕ (pin (pcfgs (F := F)) adm p) c)

/-- The buffers once the pipeline is done: its arrays at contents they may then hold, every other as it was. -/
def Left (c : Dev nD) (V' : Valuation τ sig (Elt F)) : Prop :=
  (∀ w, (rd c).ArrAt w (pin (pcfgs (F := F)) adm p).N (V' (Proc.devRef .tc (arrRef (pin (pcfgs (F := F)) adm p).spec w))))
    ∧ ∀ b : DevRef τ sig, (∀ w, b ≠ Proc.devRef .tc (arrRef (pin (pcfgs (F := F)) adm p).spec w)) → V' b = V b

/-- A valuation changed at the pipeline's arrays. -/
def putArrs (c : Dev nD) (A : (w : Fin (pin (pcfgs (F := F)) adm p).W) → Buf (Elt F) (((pin (pcfgs (F := F)) adm p).spec w).arr.view.loc (c.tc : Thread nD τ))) :
    Valuation τ sig (Elt F) := fun b =>
  open Classical in
  if h : ∃ w, Proc.devRef .tc (arrRef (pin (pcfgs (F := F)) adm p).spec w) = b then h.choose_spec ▸ A h.choose else V b

/-- An array that was put is what was put. -/
theorem putArrs_arr (hinj : Function.Injective (arrRef (pin (pcfgs (F := F)) adm p).spec)) (c : Dev nD)
    (A : (w : Fin (pin (pcfgs (F := F)) adm p).W) → Buf (Elt F) (((pin (pcfgs (F := F)) adm p).spec w).arr.view.loc (c.tc : Thread nD τ)))
    (w : Fin (pin (pcfgs (F := F)) adm p).W) : putArrs V c A (Proc.devRef .tc (arrRef (pin (pcfgs (F := F)) adm p).spec w)) = A w := by
  have h : ∃ w', Proc.devRef .tc (arrRef (pin (pcfgs (F := F)) adm p).spec w') = Proc.devRef (τ := τ) .tc (arrRef (pin (pcfgs (F := F)) adm p).spec w) := ⟨w, rfl⟩
  unfold putArrs
  rw [dif_pos h]
  have key : ∀ w' (e : Proc.devRef (τ := τ) .tc (arrRef (pin (pcfgs (F := F)) adm p).spec w') = Proc.devRef .tc (arrRef (pin (pcfgs (F := F)) adm p).spec w)),
      (e ▸ A w' : (Proc.devRef (τ := τ) .tc (arrRef (pin (pcfgs (F := F)) adm p).spec w)).ty.Contents (Elt F)) = A w := by
    intro w' e
    obtain rfl := hinj (Proc.devRef_injective _ e)
    rfl
  exact key _ h.choose_spec

/-- Every other array is as it was. -/
theorem putArrs_rest (c : Dev nD)
    (A : (w : Fin (pin (pcfgs (F := F)) adm p).W) → Buf (Elt F) (((pin (pcfgs (F := F)) adm p).spec w).arr.view.loc (c.tc : Thread nD τ)))
    (b : DevRef τ sig) (hb : ∀ w, b ≠ Proc.devRef .tc (arrRef (pin (pcfgs (F := F)) adm p).spec w)) : putArrs V c A b = V b := by
  unfold putArrs
  rw [dif_neg fun ⟨w, h⟩ => hb w h.symm]

/-- The arrays at their last contents and the other buffers are the buffers at a valuation the pipeline may leave. -/
theorem put_back (hw : Pipeline.WinFacts (pin (pcfgs (F := F)) adm p).spec) (harr : ∀ w, ((pin (pcfgs (F := F)) adm p).spec w).arr.IsWhole)
    (hq : ∀ c w, (rd c).q w = fullShare) (c : Dev nD) :
    (iprop((rd c).arraysAt (pin (pcfgs (F := F)) adm p).N ∗ Pipeline.unscopedRest (pin (pcfgs (F := F)) adm p).spec c (fun b => V b)) : sProp 𝕄)
      ⊢ iprop(∃ V' : Valuation τ sig (Elt F), ⌜Left V rd c V'⌝ ∗ unscopedBufs c (fun b => V' b)) := by
  unfold RDat.arraysAt
  iintro ⟨Ha, Hr⟩
  ihave Ha' := (BI.bigSep_exists_pi Finset.univ (fun w A => iprop(⌜(rd c).ArrAt w (pin (pcfgs (F := F)) adm p).N A⌝
      ∗ ((pin (pcfgs (F := F)) adm p).win w).arr.view.loc (c.tc : Thread nD τ) ↦[((pin (pcfgs (F := F)) adm p).win w).arr.view.set]{(rd c).share w} A))) $$ Ha
  icases Ha' with ⟨%A, Ha⟩
  ihave Ha2 := (BI.bigSep_pure_sep Finset.univ (fun w => (rd c).ArrAt w (pin (pcfgs (F := F)) adm p).N (A w))
      (fun w => ((pin (pcfgs (F := F)) adm p).win w).arr.view.loc (c.tc : Thread nD τ) ↦[((pin (pcfgs (F := F)) adm p).win w).arr.view.set]{(rd c).share w} A w)) $$ Ha
  icases Ha2 with ⟨%hA, Ha⟩
  iexists (putArrs V c A)
  isplitr
  · ipureintro
    exact ⟨fun w => by rw [putArrs_arr V hw.arr_inj c A w]; exact hA w (Finset.mem_univ w), putArrs_rest V c A⟩
  rw [Pipeline.unscopedBufs_split (pin (pcfgs (F := F)) adm) p hw.arr_unscoped hw.arr_inj c (fun b => putArrs V c A b)]
  isplitl [Ha]
  · iapply (Entails.of_eq (bigSep_congr fun w _ => by
      beta_reduce; rw [(harr w).set_eq_univ, (rd c).share_full (hq c), putArrs_arr V hw.arr_inj c A w])) $$ Ha
  · unfold Pipeline.unscopedRest
    iapply (Entails.of_eq (bigSep_congr fun b hb => by
      beta_reduce
      rw [putArrs_rest V c A (Proc.devRef .tc b) fun w e => (Finset.mem_sdiff.mp hb).2
        (Finset.mem_image.mpr ⟨w, Finset.mem_univ _, (Proc.devRef_injective _ e).symm⟩)])) $$ Hr

set_option backward.isDefEq.respectTransparency.types false in
/-- Pipeline `p` entered from the buffers at `V`. -/
def region (lf : Pipeline.LaunchFacts (nD := nD) (τ := τ) cfgs p)
    (hA : ∀ c w, (rd c).A w = V (Proc.devRef .tc (arrRef (pin (pcfgs (F := F)) adm p).spec w)))
    (hq : ∀ c w, (rd c).q w = fullShare) (howed : ∀ c t, (rd c).owed t = 0) (hrec : ∀ c t, (rd c).recorded t = lowPairs (F := F) c)
    (hbody : ∀ c, (rd c).BodyObligation (defs₀ (F := F)) 𝒱₀ none Set.univ)
    (hin : ∀ c, (Pipeline.scopedRest (pin (pcfgs (F := F)) adm p).spec c : sProp 𝕄) ⊢ (rd c).Φ 0)
    (hout : ∀ c, (rd c).Φ (Fin.last _) ⊢ (Pipeline.scopedRest (pin (pcfgs (F := F)) adm p).spec c : sProp 𝕄)) :
    RDat.RegionSeg (pcfgs (F := F)) adm (RDat.familyOf (pcfgs (F := F)) adm p rd) none defs₀ 𝒱₀ noLevs lv0 p where
  win := lf.win.to₀
  block_pos := lf.block_pos
  stage_whole := lf.stage_whole
  K := PEmpty
  osem k := k.elim
  ho := Pipeline.OwnSemFacts.none _
  hbody c := by rw [RDat.familyOf_self]; exact hbody c
  hwaits := RDat.hwaits_of_owed_zero _ _ _ _ noLevs lv0 p fun c t => by rw [RDat.familyOf_self]; exact howed c t
  pre c := iprop(unscopedBufs c (fun b => V b) ∗ owesLow (F := F) c)
  post c := iprop((∃ V' : Valuation τ sig (Elt F), ⌜Left V rd c V'⌝ ∗ unscopedBufs c (fun b => V' b)) ∗ owesLow (F := F) c)
  X _ := BI.emp
  Y _ := BI.emp
  Z c := Pipeline.unscopedRest (Ix := HIx 1) (Name := ℕ) (U := UU) (Lvl := ℕ) (pin (pcfgs (F := F)) adm p).spec c (fun b => V b)
  hentry c := by
    rw [Pipeline.ownSems0_none, Pipeline.prefHeld_of_none _ rfl]
    have hsplit := RDat.arrays_of_unscopedBufs (p := p) (pcfgs (F := F)) adm (RDat.familyOf (pcfgs (F := F)) adm p rd) lf.win lf.arr_whole c
      (by rw [RDat.familyOf_self]; exact (rd c).share_full (hq c)) (fun b => V b) (by rw [RDat.familyOf_self]; exact hA c)
    iintro ⟨⟨Hub, HO⟩, -, -⟩
    ihave H := hsplit $$ Hub
    icases H with ⟨Ha, Hrest⟩
    imodintro
    isplitl [Ha]; · iexact Ha
    isplitr; · iempintro
    isplitl [HO]
    · rw [RDat.familyOf_self]
      unfold RDat.owesAt Pipeline.owesWithin owesLow
      rw [howed]
      icases HO with ⟨%W, %hW, HO⟩; iexists W; isplitr
      · ipureintro; exact fun x hx => Or.inl (by rw [hrec]; exact hW x hx)
      iexact HO
    isplitr; · iempintro
    iexact Hrest
  hin c := by
    rw [RDat.familyOf_self]
    iintro ⟨-, -, Hr⟩; iapply (hin c); iexact Hr
  hout c := by
    rw [Pipeline.ownSems0_none, RDat.familyOf_self]
    iintro Hr
    isplitr; · iempintro
    isplitr; · iempintro
    iapply (hout c); iexact Hr
  hexit c := by
    rw [RDat.familyOf_self]
    iintro ⟨Ha, HO, -, Hrest⟩
    imodintro
    isplitl [Ha Hrest]
    · iapply (put_back V rd lf.win lf.arr_whole hq c); isplitl [Ha] <;> iassumption
    unfold RDat.owesAt Pipeline.owesWithin owesLow
    rw [howed]
    icases HO with ⟨%W, %hW, HO⟩; iexists W; isplitr
    · ipureintro
      intro x hx
      rcases hW hx with h | ⟨w, s, h⟩
      · rw [hrec] at h; exact h
      · rw [h]; exact Nat.zero_le _
    iexact HO

end Cert.Proof.Lookup

end
-- ==== Proof.Gru.lean ====
/-
  The recurrence: one call of a kernel that reads the gathered rows, each token's half, the input weight, the recurrent weight
  and the two biases, and leaves the hidden state of every step. Here: the body's run, what it leaves as a recursion on the
  step, and the pipeline over it entered from any contents of the launch's buffers.
-/
module

public import proofs.«01_k».proof.Proof.Region
public import Idealize.ShloMosaic.Lib.WritesUnit
public import Idealize.ShloMosaic.Lib.Pointwise

@[expose] public section

noncomputable section

namespace Cert.Proof.Lookup

open Cert.KernelIdeal Cert.KernelIdeal.Gen

open Idealize.ShloMosaic
open Idealize.ShloMosaic.SparseCore.Cfg (HIx)
open Idealize.ShloMosaic.Pipeline (RDat arrRef pin)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The recurrent projection of a state. -/
def gOf (b : FVec F S1x384 .f32) (h : FVec F S32x128 .f32) (W : FVec F S128x384 .f32) : FVec F S32x384 .f32 :=
  addf (matmul dot_S32x128_S128x384_S32x384_1_0_0_1_n_n none h W (constant S32x384 .f32 0x00000000#32)) (broadcastTo S32x384 b broadcasts_S1x384_S32x384)

/-- The update gate. -/
def zOf (x : FVec F S32x384 .f32) (b : FVec F S1x384 .f32) (h : FVec F S32x128 .f32) (W : FVec F S128x384 .f32) : FVec F S32x128 .f32 :=
  logistic (addf (extractStridedSlice S32x128 ![0, 0] x slices_S32x384_o0_0_S32x128) (extractStridedSlice S32x128 ![0, 0] (gOf b h W) slices_S32x384_o0_0_S32x128))

/-- The reset gate before its logistic. -/
def rPre (x : FVec F S32x384 .f32) (b : FVec F S1x384 .f32) (h : FVec F S32x128 .f32) (W : FVec F S128x384 .f32) : FVec F S32x128 .f32 :=
  addf (extractStridedSlice S32x128 ![0, 128] x slices_S32x384_o0_128_S32x128) (extractStridedSlice S32x128 ![0, 128] (gOf b h W) slices_S32x384_o0_128_S32x128)

/-- The candidate state. -/
def nOf (x : FVec F S32x384 .f32) (b : FVec F S1x384 .f32) (h : FVec F S32x128 .f32) (W : FVec F S128x384 .f32) : FVec F S32x128 .f32 :=
  tanh (addf (extractStridedSlice S32x128 ![0, 256] x slices_S32x384_o0_256_S32x128) (mulf (logistic (rPre x b h W)) (extractStridedSlice S32x128 ![0, 256] (gOf b h W) slices_S32x384_o0_256_S32x128)))

/-- One step of the recurrence: from the step's input projection, the recurrent bias, the state and the recurrent weight to
    the next state. -/
def stepOf (x : FVec F S32x384 .f32) (b : FVec F S1x384 .f32) (h : FVec F S32x128 .f32) (W : FVec F S128x384 .f32) : FVec F S32x128 .f32 :=
  addf (mulf (zOf x b h W) h) (mulf (subf (broadcast S32x128 (Scalar.ofBits .f32 0x3F800000#32)) (zOf x b h W)) (nOf x b h W))

/-- Each of 20 steps' 32 rows lie among the 640. -/
theorem slice_rows : ∀ t : Fin 20, Cert.KernelIdeal.S640x384.Slices ![32 * t.val, 0] Cert.KernelIdeal.S32x384 := by decide

/-- The projections of step `t`'s 32 tokens. -/
def rowsOf (xp : FVec F S640x384 .f32) (t : Fin 20) : FVec F S32x384 .f32 := extractStridedSlice S32x384 ![32 * t.val, 0] xp (slice_rows t)

/-- The state after step `t`. -/
def hidden (xp : FVec F S640x384 .f32) (b : FVec F S1x384 .f32) (W : FVec F S128x384 .f32) : (t : ℕ) → t < 20 → FVec F S32x128 .f32
  | 0, h => stepOf (rowsOf xp ⟨0, h⟩) b (broadcast S32x128 (Scalar.ofBits .f32 0x00000000#32)) W
  | t + 1, h => stepOf (rowsOf xp ⟨t + 1, h⟩) b (hidden xp b W t (Nat.lt_of_succ_lt h)) W

/-- What the body leaves: at batch row `b`, step `t`, the state after step `t`. -/
def gruOut (X0 : Vec F S640x128 .f32) (X1 : Vec F S640x1 .i32) (X2 : Vec F S64x384 .f32) (X3 : Vec F S128x384 .f32) (X4 : Vec F S2x384 .f32) : Vec F S32x20x128 .f32 :=
  fun j => hidden (k1_pay2 (View.ld X4 (Rect.unit (s := S2x384) ![0, 0] S1x384.size inb_S2x384_S1x384_0_0)) X0 X1 X2)
    (View.ld X4 (Rect.unit (s := S2x384) ![1, 0] S1x384.size inb_S2x384_S1x384_1_0)) X3 (j 1).val (j 1).isLt (ix2 (j 0) (j 2))

section Payloads

variable (b : FVec F S1x384 .f32) (x : FVec F S640x384 .f32) (h : FVec F S32x128 .f32) (W : FVec F S128x384 .f32)

/-- Written value 3, in the words of the step. -/
theorem pay3_eq (v0 : FVec F S1x384 .f32) (v2 : Vec F S640x128 .f32) (v4 : Vec F S640x1 .i32) (v13 : Vec F S64x384 .f32) :
    k1_pay3 v0 b v2 v4 v13 W = stepOf (rowsOf (k1_pay2 v0 v2 v4 v13) 0) b (broadcast S32x128 (Scalar.ofBits .f32 0x00000000#32)) W := rfl
/-- Written value 1, in the words of the step. -/
theorem pay1_eq : k1_pay1 (F := F) h = shapeCast S32x1x128 h shapeCasts_S32x128_S32x1x128 := rfl
/-- Written value 4, in the words of the step. -/
theorem pay4_eq : k1_pay4 (F := F) h = shapeCast S32x1x128 h shapeCasts_S32x128_S32x1x128 := rfl
/-- Written value 27, in the words of the step. -/
theorem pay27_eq : k1_pay27 (F := F) h = shapeCast S32x1x128 h shapeCasts_S32x128_S32x1x128 := rfl
/-- Written value 5, in the words of the step. -/
theorem pay5_eq : k1_pay5 (F := F) b x h W = (stepOf (rowsOf x 1) b h W) := rfl
/-- Written value 6, in the words of the step. -/
theorem pay6_eq : k1_pay6 (F := F) b x h W = shapeCast S32x1x128 (stepOf (rowsOf x 1) b h W) shapeCasts_S32x128_S32x1x128 := rfl
/-- Written value 9, in the words of the step. -/
theorem pay9_eq : k1_pay9 (F := F) b x h W W = (zOf (rowsOf x 2) b (stepOf (rowsOf x 1) b h W) W) := rfl
/-- Written value 10, in the words of the step. -/
theorem pay10_eq : k1_pay10 (F := F) b x h W W = (nOf (rowsOf x 2) b (stepOf (rowsOf x 1) b h W) W) := rfl
/-- Written value 12, in the words of the step. -/
theorem pay12_eq : k1_pay12 (F := F) h (zOf (rowsOf x 2) b h W) (nOf (rowsOf x 2) b h W) = shapeCast S32x1x128 (stepOf (rowsOf x 2) b h W) shapeCasts_S32x128_S32x1x128 := rfl
/-- Written value 13, in the words of the step. -/
theorem pay13_eq : k1_pay13 (F := F) b x h (zOf (rowsOf x 2) b h W) (nOf (rowsOf x 2) b h W) W = (stepOf (rowsOf x 3) b (stepOf (rowsOf x 2) b h W) W) := rfl
/-- Written value 14, in the words of the step. -/
theorem pay14_eq : k1_pay14 (F := F) b x h (zOf (rowsOf x 2) b h W) (nOf (rowsOf x 2) b h W) W = shapeCast S32x1x128 (stepOf (rowsOf x 3) b (stepOf (rowsOf x 2) b h W) W) shapeCasts_S32x128_S32x1x128 := rfl
/-- Written value 15, in the words of the step. -/
theorem pay15_eq : k1_pay15 (F := F) x = (rowsOf x 4) := rfl
/-- Written value 16, in the words of the step. -/
theorem pay16_eq : k1_pay16 (F := F) b x h (zOf (rowsOf x 2) b h W) (nOf (rowsOf x 2) b h W) W W = (gOf b (stepOf (rowsOf x 3) b (stepOf (rowsOf x 2) b h W) W) W) := rfl
/-- Written value 17, in the words of the step. -/
theorem pay17_eq : k1_pay17 (F := F) b x h (zOf (rowsOf x 2) b h W) (nOf (rowsOf x 2) b h W) W W = (zOf (rowsOf x 4) b (stepOf (rowsOf x 3) b (stepOf (rowsOf x 2) b h W) W) W) := rfl
/-- Written value 18, in the words of the step. -/
theorem pay18_eq : k1_pay18 (F := F) x = (extractStridedSlice S32x128 ![0, 128] (rowsOf x 4) slices_S32x384_o0_128_S32x128) := rfl
/-- Written value 20, in the words of the step. -/
theorem pay20_eq : k1_pay20 (F := F) h (rowsOf x 4) (gOf b h W) (zOf (rowsOf x 4) b h W) (extractStridedSlice S32x128 ![0, 128] (rowsOf x 4) slices_S32x384_o0_128_S32x128) = shapeCast S32x1x128 (stepOf (rowsOf x 4) b h W) shapeCasts_S32x128_S32x1x128 := rfl
/-- Written value 21, in the words of the step. -/
theorem pay21_eq : k1_pay21 (F := F) b x h (rowsOf x 4) (gOf b h W) (zOf (rowsOf x 4) b h W) (extractStridedSlice S32x128 ![0, 128] (rowsOf x 4) slices_S32x384_o0_128_S32x128) W = (stepOf (rowsOf x 5) b (stepOf (rowsOf x 4) b h W) W) := rfl
/-- Written value 22, in the words of the step. -/
theorem pay22_eq : k1_pay22 (F := F) b x h (rowsOf x 4) (gOf b h W) (zOf (rowsOf x 4) b h W) (extractStridedSlice S32x128 ![0, 128] (rowsOf x 4) slices_S32x384_o0_128_S32x128) W = shapeCast S32x1x128 (stepOf (rowsOf x 5) b (stepOf (rowsOf x 4) b h W) W) shapeCasts_S32x128_S32x1x128 := rfl
/-- Written value 23, in the words of the step. -/
theorem pay23_eq : k1_pay23 (F := F) x = (rowsOf x 6) := rfl
/-- Written value 25, in the words of the step. -/
theorem pay25_eq : k1_pay25 (F := F) b h (rowsOf x 6) W (constant S32x384 .f32 0x00000000#32) = shapeCast S32x1x128 (stepOf (rowsOf x 6) b h W) shapeCasts_S32x128_S32x1x128 := rfl
/-- Written value 26, in the words of the step. -/
theorem pay26_eq : k1_pay26 (F := F) b x h (rowsOf x 6) W (constant S32x384 .f32 0x00000000#32) W = (stepOf (rowsOf x 7) b (stepOf (rowsOf x 6) b h W) W) := rfl
/-- Written value 29, in the words of the step. -/
theorem pay29_eq : k1_pay29 (F := F) b x h W = shapeCast S32x1x128 (stepOf (rowsOf x 8) b h W) shapeCasts_S32x128_S32x1x128 := rfl
/-- Written value 32, in the words of the step. -/
theorem pay32_eq : k1_pay32 (F := F) b x h W W = (zOf (rowsOf x 9) b (stepOf (rowsOf x 8) b h W) W) := rfl
/-- Written value 33, in the words of the step. -/
theorem pay33_eq : k1_pay33 (F := F) b x h W W = (nOf (rowsOf x 9) b (stepOf (rowsOf x 8) b h W) W) := rfl
/-- Written value 34, in the words of the step. -/
theorem pay34_eq : k1_pay34 (F := F) b x h W W = (mulf (zOf (rowsOf x 9) b (stepOf (rowsOf x 8) b h W) W) (stepOf (rowsOf x 8) b h W)) := rfl
/-- Written value 36, in the words of the step. -/
theorem pay36_eq : k1_pay36 (F := F) (zOf (rowsOf x 9) b h W) (nOf (rowsOf x 9) b h W) (mulf (zOf (rowsOf x 9) b h W) h) (Scalar.ofBits .f32 0x3F800000#32) = shapeCast S32x1x128 (stepOf (rowsOf x 9) b h W) shapeCasts_S32x128_S32x1x128 := rfl
/-- Written value 37, in the words of the step. -/
theorem pay37_eq : k1_pay37 (F := F) b x (zOf (rowsOf x 9) b h W) (nOf (rowsOf x 9) b h W) (mulf (zOf (rowsOf x 9) b h W) h) (Scalar.ofBits .f32 0x3F800000#32) W = (stepOf (rowsOf x 10) b (stepOf (rowsOf x 9) b h W) W) := rfl
/-- Written value 38, in the words of the step. -/
theorem pay38_eq : k1_pay38 (F := F) b x (zOf (rowsOf x 9) b h W) (nOf (rowsOf x 9) b h W) (mulf (zOf (rowsOf x 9) b h W) h) (Scalar.ofBits .f32 0x3F800000#32) W = shapeCast S32x1x128 (stepOf (rowsOf x 10) b (stepOf (rowsOf x 9) b h W) W) shapeCasts_S32x128_S32x1x128 := rfl
/-- Written value 39, in the words of the step. -/
theorem pay39_eq : k1_pay39 (F := F) x = (rowsOf x 11) := rfl
/-- Written value 40, in the words of the step. -/
theorem pay40_eq : k1_pay40 (F := F) b x (zOf (rowsOf x 9) b h W) (nOf (rowsOf x 9) b h W) (mulf (zOf (rowsOf x 9) b h W) h) (Scalar.ofBits .f32 0x3F800000#32) W W = (gOf b (stepOf (rowsOf x 10) b (stepOf (rowsOf x 9) b h W) W) W) := rfl
/-- Written value 41, in the words of the step. -/
theorem pay41_eq : k1_pay41 (F := F) b x (zOf (rowsOf x 9) b h W) (nOf (rowsOf x 9) b h W) (mulf (zOf (rowsOf x 9) b h W) h) (Scalar.ofBits .f32 0x3F800000#32) W W = (zOf (rowsOf x 11) b (stepOf (rowsOf x 10) b (stepOf (rowsOf x 9) b h W) W) W) := rfl
/-- Written value 42, in the words of the step. -/
theorem pay42_eq : k1_pay42 (F := F) b x (zOf (rowsOf x 9) b h W) (nOf (rowsOf x 9) b h W) (mulf (zOf (rowsOf x 9) b h W) h) (Scalar.ofBits .f32 0x3F800000#32) W W = (rPre (rowsOf x 11) b (stepOf (rowsOf x 10) b (stepOf (rowsOf x 9) b h W) W) W) := rfl
/-- Written value 44, in the words of the step. -/
theorem pay44_eq : k1_pay44 (F := F) h (rowsOf x 11) (gOf b h W) (zOf (rowsOf x 11) b h W) (rPre (rowsOf x 11) b h W) = shapeCast S32x1x128 (stepOf (rowsOf x 11) b h W) shapeCasts_S32x128_S32x1x128 := rfl
/-- Written value 45, in the words of the step. -/
theorem pay45_eq : k1_pay45 (F := F) b x h (rowsOf x 11) (gOf b h W) (zOf (rowsOf x 11) b h W) (rPre (rowsOf x 11) b h W) W = (stepOf (rowsOf x 12) b (stepOf (rowsOf x 11) b h W) W) := rfl
/-- Written value 46, in the words of the step. -/
theorem pay46_eq : k1_pay46 (F := F) b x h (rowsOf x 11) (gOf b h W) (zOf (rowsOf x 11) b h W) (rPre (rowsOf x 11) b h W) W = shapeCast S32x1x128 (stepOf (rowsOf x 12) b (stepOf (rowsOf x 11) b h W) W) shapeCasts_S32x128_S32x1x128 := rfl
/-- Written value 47, in the words of the step. -/
theorem pay47_eq : k1_pay47 (F := F) x = (rowsOf x 13) := rfl
/-- Written value 48, in the words of the step. -/
theorem pay48_eq : k1_pay48 (F := F) b x h (rowsOf x 11) (gOf b h W) (zOf (rowsOf x 11) b h W) (rPre (rowsOf x 11) b h W) W W = (matmul dot_S32x128_S128x384_S32x384_1_0_0_1_n_n none (stepOf (rowsOf x 12) b (stepOf (rowsOf x 11) b h W) W) W (constant S32x384 .f32 0x00000000#32)) := rfl
/-- Written value 49, in the words of the step. -/
theorem pay49_eq : k1_pay49 (F := F) b = (broadcastTo S32x384 b broadcasts_S1x384_S32x384) := rfl
/-- Written value 51, in the words of the step. -/
theorem pay51_eq : k1_pay51 (F := F) h (rowsOf x 13) (matmul dot_S32x128_S128x384_S32x384_1_0_0_1_n_n none h W (constant S32x384 .f32 0x00000000#32)) (broadcastTo S32x384 b broadcasts_S1x384_S32x384) = shapeCast S32x1x128 (stepOf (rowsOf x 13) b h W) shapeCasts_S32x128_S32x1x128 := rfl
/-- Written value 52, in the words of the step. -/
theorem pay52_eq : k1_pay52 (F := F) b x h (rowsOf x 13) (matmul dot_S32x128_S128x384_S32x384_1_0_0_1_n_n none h W (constant S32x384 .f32 0x00000000#32)) (broadcastTo S32x384 b broadcasts_S1x384_S32x384) W = (stepOf (rowsOf x 14) b (stepOf (rowsOf x 13) b h W) W) := rfl
/-- Written value 53, in the words of the step. -/
theorem pay53_eq : k1_pay53 (F := F) b x h (rowsOf x 13) (matmul dot_S32x128_S128x384_S32x384_1_0_0_1_n_n none h W (constant S32x384 .f32 0x00000000#32)) (broadcastTo S32x384 b broadcasts_S1x384_S32x384) W = shapeCast S32x1x128 (stepOf (rowsOf x 14) b (stepOf (rowsOf x 13) b h W) W) shapeCasts_S32x128_S32x1x128 := rfl
/-- Written value 55, in the words of the step. -/
theorem pay55_eq : k1_pay55 (F := F) b x h W = shapeCast S32x1x128 (stepOf (rowsOf x 15) b h W) shapeCasts_S32x128_S32x1x128 := rfl
/-- Written value 59, in the words of the step. -/
theorem pay59_eq : k1_pay59 (F := F) b x h W W = (nOf (rowsOf x 16) b (stepOf (rowsOf x 15) b h W) W) := rfl
/-- Written value 60, in the words of the step. -/
theorem pay60_eq : k1_pay60 (F := F) b x h W W = (mulf (zOf (rowsOf x 16) b (stepOf (rowsOf x 15) b h W) W) (stepOf (rowsOf x 15) b h W)) := rfl
/-- Written value 61, in the words of the step. -/
theorem pay61_eq : k1_pay61 (F := F) b x h W W = (subf (broadcast S32x128 (Scalar.ofBits .f32 0x3F800000#32)) (zOf (rowsOf x 16) b (stepOf (rowsOf x 15) b h W) W)) := rfl
/-- Written value 63, in the words of the step. -/
theorem pay63_eq : k1_pay63 (F := F) (nOf (rowsOf x 16) b h W) (mulf (zOf (rowsOf x 16) b h W) h) (subf (broadcast S32x128 (Scalar.ofBits .f32 0x3F800000#32)) (zOf (rowsOf x 16) b h W)) = shapeCast S32x1x128 (stepOf (rowsOf x 16) b h W) shapeCasts_S32x128_S32x1x128 := rfl
/-- Written value 64, in the words of the step. -/
theorem pay64_eq : k1_pay64 (F := F) b x (nOf (rowsOf x 16) b h W) (mulf (zOf (rowsOf x 16) b h W) h) (subf (broadcast S32x128 (Scalar.ofBits .f32 0x3F800000#32)) (zOf (rowsOf x 16) b h W)) W = (stepOf (rowsOf x 17) b (stepOf (rowsOf x 16) b h W) W) := rfl
/-- Written value 65, in the words of the step. -/
theorem pay65_eq : k1_pay65 (F := F) b x (nOf (rowsOf x 16) b h W) (mulf (zOf (rowsOf x 16) b h W) h) (subf (broadcast S32x128 (Scalar.ofBits .f32 0x3F800000#32)) (zOf (rowsOf x 16) b h W)) W = shapeCast S32x1x128 (stepOf (rowsOf x 17) b (stepOf (rowsOf x 16) b h W) W) shapeCasts_S32x128_S32x1x128 := rfl
/-- Written value 67, in the words of the step. -/
theorem pay67_eq : k1_pay67 (F := F) b x (nOf (rowsOf x 16) b h W) (mulf (zOf (rowsOf x 16) b h W) h) (subf (broadcast S32x128 (Scalar.ofBits .f32 0x3F800000#32)) (zOf (rowsOf x 16) b h W)) W W = (gOf b (stepOf (rowsOf x 17) b (stepOf (rowsOf x 16) b h W) W) W) := rfl
/-- Written value 68, in the words of the step. -/
theorem pay68_eq : k1_pay68 (F := F) b x (nOf (rowsOf x 16) b h W) (mulf (zOf (rowsOf x 16) b h W) h) (subf (broadcast S32x128 (Scalar.ofBits .f32 0x3F800000#32)) (zOf (rowsOf x 16) b h W)) W W = (zOf (rowsOf x 18) b (stepOf (rowsOf x 17) b (stepOf (rowsOf x 16) b h W) W) W) := rfl
/-- Written value 69, in the words of the step. -/
theorem pay69_eq : k1_pay69 (F := F) b x (nOf (rowsOf x 16) b h W) (mulf (zOf (rowsOf x 16) b h W) h) (subf (broadcast S32x128 (Scalar.ofBits .f32 0x3F800000#32)) (zOf (rowsOf x 16) b h W)) W W = (logistic (rPre (rowsOf x 18) b (stepOf (rowsOf x 17) b (stepOf (rowsOf x 16) b h W) W) W)) := rfl
/-- Written value 70, in the words of the step. -/
theorem pay70_eq : k1_pay70 (F := F) x = (extractStridedSlice S32x128 ![0, 256] (rowsOf x 18) slices_S32x384_o0_256_S32x128) := rfl
/-- Written value 72, in the words of the step. -/
theorem pay72_eq : k1_pay72 (F := F) h (gOf b h W) (zOf (rowsOf x 18) b h W) (logistic (rPre (rowsOf x 18) b h W)) (extractStridedSlice S32x128 ![0, 256] (rowsOf x 18) slices_S32x384_o0_256_S32x128) = shapeCast S32x1x128 (stepOf (rowsOf x 18) b h W) shapeCasts_S32x128_S32x1x128 := rfl
/-- Written value 73, in the words of the step. -/
theorem pay73_eq : k1_pay73 (F := F) b x h (gOf b h W) (zOf (rowsOf x 18) b h W) (logistic (rPre (rowsOf x 18) b h W)) (extractStridedSlice S32x128 ![0, 256] (rowsOf x 18) slices_S32x384_o0_256_S32x128) W = (stepOf (rowsOf x 19) b (stepOf (rowsOf x 18) b h W) W) := rfl
/-- The first hidden state, in the words of the step. -/
theorem hid0 : stepOf (rowsOf x 0) b (broadcast S32x128 (Scalar.ofBits .f32 0x00000000#32)) W = hidden x b W 0 (by decide) := rfl
/-- The hidden state after step 1, in the words of the step. -/
theorem hid1 : stepOf (rowsOf x 1) b (hidden x b W 0 (by decide)) W = hidden x b W 1 (by decide) := rfl
/-- The hidden state after step 2, in the words of the step. -/
theorem hid2 : stepOf (rowsOf x 2) b (hidden x b W 1 (by decide)) W = hidden x b W 2 (by decide) := rfl
/-- The hidden state after step 3, in the words of the step. -/
theorem hid3 : stepOf (rowsOf x 3) b (hidden x b W 2 (by decide)) W = hidden x b W 3 (by decide) := rfl
/-- The hidden state after step 4, in the words of the step. -/
theorem hid4 : stepOf (rowsOf x 4) b (hidden x b W 3 (by decide)) W = hidden x b W 4 (by decide) := rfl
/-- The hidden state after step 5, in the words of the step. -/
theorem hid5 : stepOf (rowsOf x 5) b (hidden x b W 4 (by decide)) W = hidden x b W 5 (by decide) := rfl
/-- The hidden state after step 6, in the words of the step. -/
theorem hid6 : stepOf (rowsOf x 6) b (hidden x b W 5 (by decide)) W = hidden x b W 6 (by decide) := rfl
/-- The hidden state after step 7, in the words of the step. -/
theorem hid7 : stepOf (rowsOf x 7) b (hidden x b W 6 (by decide)) W = hidden x b W 7 (by decide) := rfl
/-- The hidden state after step 8, in the words of the step. -/
theorem hid8 : stepOf (rowsOf x 8) b (hidden x b W 7 (by decide)) W = hidden x b W 8 (by decide) := rfl
/-- The hidden state after step 9, in the words of the step. -/
theorem hid9 : stepOf (rowsOf x 9) b (hidden x b W 8 (by decide)) W = hidden x b W 9 (by decide) := rfl
/-- The hidden state after step 10, in the words of the step. -/
theorem hid10 : stepOf (rowsOf x 10) b (hidden x b W 9 (by decide)) W = hidden x b W 10 (by decide) := rfl
/-- The hidden state after step 11, in the words of the step. -/
theorem hid11 : stepOf (rowsOf x 11) b (hidden x b W 10 (by decide)) W = hidden x b W 11 (by decide) := rfl
/-- The hidden state after step 12, in the words of the step. -/
theorem hid12 : stepOf (rowsOf x 12) b (hidden x b W 11 (by decide)) W = hidden x b W 12 (by decide) := rfl
/-- The hidden state after step 13, in the words of the step. -/
theorem hid13 : stepOf (rowsOf x 13) b (hidden x b W 12 (by decide)) W = hidden x b W 13 (by decide) := rfl
/-- The hidden state after step 14, in the words of the step. -/
theorem hid14 : stepOf (rowsOf x 14) b (hidden x b W 13 (by decide)) W = hidden x b W 14 (by decide) := rfl
/-- The hidden state after step 15, in the words of the step. -/
theorem hid15 : stepOf (rowsOf x 15) b (hidden x b W 14 (by decide)) W = hidden x b W 15 (by decide) := rfl
/-- The hidden state after step 16, in the words of the step. -/
theorem hid16 : stepOf (rowsOf x 16) b (hidden x b W 15 (by decide)) W = hidden x b W 16 (by decide) := rfl
/-- The hidden state after step 17, in the words of the step. -/
theorem hid17 : stepOf (rowsOf x 17) b (hidden x b W 16 (by decide)) W = hidden x b W 17 (by decide) := rfl
/-- The hidden state after step 18, in the words of the step. -/
theorem hid18 : stepOf (rowsOf x 18) b (hidden x b W 17 (by decide)) W = hidden x b W 18 (by decide) := rfl
/-- The hidden state after step 19, in the words of the step. -/
theorem hid19 : stepOf (rowsOf x 19) b (hidden x b W 18 (by decide)) W = hidden x b W 19 (by decide) := rfl

end Payloads

/-- A list of rows read at an index: the newest row if the index's step is that row's, else the rest. -/
theorem peel (v : View sig .tc .vmem S32x20x128 .f32) (f : v.ty.Contents (Elt F)) (t : ℕ)
    (inb : ∀ a, (![0, t, 0] : Fin 3 → ℕ) a + (![32, 1, 128] : Fin 3 → ℕ) a ≤ S32x20x128.size a) (w : S32x1x128.Idx → Elt F .f32)
    (L : List (View.Piece (Elt F) S32x20x128 .f32)) (j : S32x20x128.Idx) (r : Elt F .f32)
    (hw : (j 1).val = t → w (ix3 (j 0) (0 : Fin 1) (j 2)) = r) (hL : (j 1).val ≠ t → v.read (Elt F) (v.writes (Elt F) f L) j = r) :
    v.read (Elt F) (v.writes (Elt F) f ((⟨Rect.unit ![0, t, 0] ![32, 1, 128] inb, w⟩ : View.Piece (Elt F) S32x20x128 .f32) :: L)) j = r := by
  by_cases e : (j 1).val = t
  · rw [← hw e]
    refine View.read_writes_cons_unit_of_mem v f inb w L j (ix3 (j 0) (0 : Fin 1) (j 2)) rfl fun a => ?_
    fin_cases a
    · exact (Nat.zero_add _).symm
    · exact e
    · exact (Nat.zero_add _).symm
  · rw [← hL e]
    exact View.read_writes_cons_unit_of_not_mem v f inb w L j rfl 1 (by
      show (j 1).val < t ∨ t + 1 ≤ (j 1).val
      omega)

/-- A state laid out as one step's row, read at its own index. -/
theorem row_eq (X0 : Vec F S640x128 .f32) (X1 : Vec F S640x1 .i32) (X2 : Vec F S64x384 .f32) (X3 : Vec F S128x384 .f32) (X4 : Vec F S2x384 .f32)
    (j : S32x20x128.Idx) (t : ℕ) (ht : t < 20) (e : (j 1).val = t) :
    shapeCast S32x1x128 (hidden (k1_pay2 (View.ld X4 (Rect.unit (s := S2x384) ![0, 0] S1x384.size inb_S2x384_S1x384_0_0)) X0 X1 X2)
      (View.ld X4 (Rect.unit (s := S2x384) ![1, 0] S1x384.size inb_S2x384_S1x384_1_0)) X3 t ht) shapeCasts_S32x128_S32x1x128 (ix3 (j 0) (0 : Fin 1) (j 2))
      = gruOut X0 X1 X2 X3 X4 j := by
  subst e
  unfold gruOut
  refine shapeCast_apply _ _ _ (ix2 (j 0) (j 2)) ?_
  rw [Shape.rowMajor_val_two, Shape.rowMajor_val_three]
  show (j 0).val * 128 + (j 2).val = ((j 0).val * 1 + 0) * 128 + (j 2).val
  omega

/-- The body's run. -/
theorem gru_run (c : Dev nD) (M0 : Memref sig .tc .vmem S640x128 .f32) (h0 : M0.IsWhole)
    (M1 : Memref sig .tc .vmem S640x1 .i32) (h1 : M1.IsWhole) (M2 : Memref sig .tc .vmem S64x384 .f32) (h2 : M2.IsWhole)
    (M3 : Memref sig .tc .vmem S128x384 .f32) (h3 : M3.IsWhole) (M4 : Memref sig .tc .vmem S2x384 .f32) (h4 : M4.IsWhole)
    (M5 : Memref sig .tc .vmem S32x20x128 .f32) (h5 : M5.IsWhole)
    (X0 : Vec F S640x128 .f32) (X1 : Vec F S640x1 .i32) (X2 : Vec F S64x384 .f32) (X3 : Vec F S128x384 .f32) (X4 : Vec F S2x384 .f32) (X5 : Vec F S32x20x128 .f32)
    (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare X4 ∗ owns (c : Thread nD τ) M5 fullShare (gruOut X0 X1 X2 X3 X4)) -∗ Q ⟨⟩))
      ⊢ wp frame (wpE (defs₀ (F := F)) 𝒱₀ c none) E (cc1__gru_body M0 h0 M1 h1 M2 h2 M3 h3 M4 h4 M5 h5) Q := by
  rw [owns_iff c M0 h0, owns_iff c M1 h1, owns_iff c M2 h2, owns_iff c M3 h3, owns_iff c M4 h4, owns_iff c M5 h5, owns_iff c M5 h5,
    cc1__gru_body_eq_skeleton]
  unfold cc1__gru_body_skel
  rw [k1_part12_eq_skeleton]
  unfold k1_part12_skel
  rw [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton, k1_part10_eq_skeleton, k1_part11_eq_skeleton]
  unfold k1_part1_skel k1_part2_skel k1_part3_skel k1_part4_skel k1_part5_skel k1_part6_skel k1_part7_skel k1_part8_skel k1_part9_skel k1_part10_skel k1_part11_skel
  iintro ⟨⟨%f0, %e0, H0⟩, ⟨%f1, %e1, H1⟩, ⟨%f2, %e2, H2⟩, ⟨%f3, %e3, H3⟩, ⟨%f4, %e4, H4⟩, ⟨%f5, %e5, H5⟩, Hk⟩
  sl_exec!
  sl_step
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  iexists _; isplitr; swap; (· iexact H5); ipureintro
  sl_unfold_words
  have r0 : M0.view.readAt (Elt F) (Rect.unit (s := S640x128) ![0, 0] ![640, 128] inb_S640x128_S640x128_0_0).toLoadRect f0 = X0 := (readAt_whole M0.view f0 hz2 _).trans e0
  have r1 : M1.view.readAt (Elt F) (Rect.unit (s := S640x1) ![0, 0] ![640, 1] inb_S640x1_S640x1_0_0).toLoadRect f1 = X1 := (readAt_whole M1.view f1 hz2 _).trans e1
  have r2 : M2.view.readAt (Elt F) (Rect.unit (s := S64x384) ![0, 0] ![64, 384] inb_S64x384_S64x384_0_0).toLoadRect f2 = X2 := (readAt_whole M2.view f2 hz2 _).trans e2
  have r3 : M3.view.readAt (Elt F) (Rect.unit (s := S128x384) ![0, 0] ![128, 384] inb_S128x384_S128x384_0_0).toLoadRect f3 = X3 := (readAt_whole M3.view f3 hz2 _).trans e3
  have r4 : M4.view.readAt (Elt F) (Rect.unit (s := S2x384) ![0, 0] ![1, 384] inb_S2x384_S1x384_0_0).toLoadRect f4 = View.ld X4 (Rect.unit (s := S2x384) ![0, 0] S1x384.size inb_S2x384_S1x384_0_0) := by
    rw [← e4]; exact View.readAt_eq_ld _ _ _
  have r5 : M4.view.readAt (Elt F) (Rect.unit (s := S2x384) ![1, 0] ![1, 384] inb_S2x384_S1x384_1_0).toLoadRect f4 = View.ld X4 (Rect.unit (s := S2x384) ![1, 0] S1x384.size inb_S2x384_S1x384_1_0) := by
    rw [← e4]; exact View.readAt_eq_ld _ _ _
  simp only [r0, r1, r2, r3, r4, r5, pay3_eq, pay1_eq, pay4_eq, pay27_eq, pay5_eq, pay6_eq, pay9_eq, pay10_eq, pay12_eq, pay13_eq, pay14_eq, pay15_eq, pay16_eq, pay17_eq, pay18_eq, pay20_eq, pay21_eq, pay22_eq, pay23_eq, pay25_eq, pay26_eq, pay29_eq, pay32_eq, pay33_eq, pay34_eq, pay36_eq, pay37_eq, pay38_eq, pay39_eq, pay40_eq, pay41_eq, pay42_eq, pay44_eq, pay45_eq, pay46_eq, pay47_eq, pay48_eq, pay49_eq, pay51_eq, pay52_eq, pay53_eq, pay55_eq, pay59_eq, pay60_eq, pay61_eq, pay63_eq, pay64_eq, pay65_eq, pay67_eq, pay68_eq, pay69_eq, pay70_eq, pay72_eq, pay73_eq, hid0, hid1, hid2, hid3, hid4, hid5, hid6, hid7, hid8, hid9, hid10, hid11, hid12, hid13, hid14, hid15, hid16, hid17, hid18, hid19]
  refine funext fun j => ?_
  refine peel M5.view _ 19 _ _ _ j _ (fun e => row_eq X0 X1 X2 X3 X4 j 19 (by decide) e) (fun n19 => ?_)
  refine peel M5.view _ 18 _ _ _ j _ (fun e => row_eq X0 X1 X2 X3 X4 j 18 (by decide) e) (fun n18 => ?_)
  refine peel M5.view _ 17 _ _ _ j _ (fun e => row_eq X0 X1 X2 X3 X4 j 17 (by decide) e) (fun n17 => ?_)
  refine peel M5.view _ 16 _ _ _ j _ (fun e => row_eq X0 X1 X2 X3 X4 j 16 (by decide) e) (fun n16 => ?_)
  refine peel M5.view _ 15 _ _ _ j _ (fun e => row_eq X0 X1 X2 X3 X4 j 15 (by decide) e) (fun n15 => ?_)
  refine peel M5.view _ 14 _ _ _ j _ (fun e => row_eq X0 X1 X2 X3 X4 j 14 (by decide) e) (fun n14 => ?_)
  refine peel M5.view _ 13 _ _ _ j _ (fun e => row_eq X0 X1 X2 X3 X4 j 13 (by decide) e) (fun n13 => ?_)
  refine peel M5.view _ 12 _ _ _ j _ (fun e => row_eq X0 X1 X2 X3 X4 j 12 (by decide) e) (fun n12 => ?_)
  refine peel M5.view _ 11 _ _ _ j _ (fun e => row_eq X0 X1 X2 X3 X4 j 11 (by decide) e) (fun n11 => ?_)
  refine peel M5.view _ 10 _ _ _ j _ (fun e => row_eq X0 X1 X2 X3 X4 j 10 (by decide) e) (fun n10 => ?_)
  refine peel M5.view _ 9 _ _ _ j _ (fun e => row_eq X0 X1 X2 X3 X4 j 9 (by decide) e) (fun n9 => ?_)
  refine peel M5.view _ 8 _ _ _ j _ (fun e => row_eq X0 X1 X2 X3 X4 j 8 (by decide) e) (fun n8 => ?_)
  refine peel M5.view _ 7 _ _ _ j _ (fun e => row_eq X0 X1 X2 X3 X4 j 7 (by decide) e) (fun n7 => ?_)
  refine peel M5.view _ 6 _ _ _ j _ (fun e => row_eq X0 X1 X2 X3 X4 j 6 (by decide) e) (fun n6 => ?_)
  refine peel M5.view _ 5 _ _ _ j _ (fun e => row_eq X0 X1 X2 X3 X4 j 5 (by decide) e) (fun n5 => ?_)
  refine peel M5.view _ 4 _ _ _ j _ (fun e => row_eq X0 X1 X2 X3 X4 j 4 (by decide) e) (fun n4 => ?_)
  refine peel M5.view _ 3 _ _ _ j _ (fun e => row_eq X0 X1 X2 X3 X4 j 3 (by decide) e) (fun n3 => ?_)
  refine peel M5.view _ 2 _ _ _ j _ (fun e => row_eq X0 X1 X2 X3 X4 j 2 (by decide) e) (fun n2 => ?_)
  refine peel M5.view _ 1 _ _ _ j _ (fun e => row_eq X0 X1 X2 X3 X4 j 1 (by decide) e) (fun n1 => ?_)
  refine peel M5.view _ 0 _ _ _ j _ (fun e => row_eq X0 X1 X2 X3 X4 j 0 (by decide) e) (fun n0 => ?_)
  have := (j 1).isLt
  have h20 : (j 1).val < 20 := (j 1).isLt
  omega

/-! ## The pipeline -/

variable (V : Valuation τ sig (Elt F))

/-- What window `w`'s staging buffer holds once its block at point `t` is fetched, if it held `d`. -/
abbrev gruFt (c : Dev nD) (w : Fin 6) (t : Fin cfg1.N) (d : (cfg1.win w).block.Idx → Elt F (cfg1.win w).elt) : (cfg1.win w).block.Idx → Elt F (cfg1.win w).elt :=
  (cfg1.win w).fill (cfg1.grid.coords t) d (((cfg1.win w).blk t).view.read (Elt F) (V (Proc.devRef .tc (arrRef cfg1.spec w))))

/-- What the body makes of the blocks fetched at point `t`. -/
def GruAt (c : Dev nD) (t : Fin cfg1.N) (X : Vec F S32x20x128 .f32) : Prop :=
  ∃ d0 d1 d2 d3 d4, X = gruOut (gruFt V c 0 t d0) (gruFt V c 1 t d1) (gruFt V c 2 t d2) (gruFt V c 3 t d3) (gruFt V c 4 t d4)

/-- What stays with the core between points: its scoped buffers that are no staging buffer. -/
def gruRest (c : Dev nD) : sProp 𝕄 := Pipeline.scopedRest spec1 c

/-- The memory that the call does not stage, spelled out. -/
theorem gruRest_eq (c : Dev nD) : (Pipeline.scopedRest (pin (pcfgs (F := F)) adm 0).spec c : sProp 𝕄) = gruRest (F := F) c := rfl

/-- The inputs' buffers are left as found, the result's at the hidden states. -/
def gruDat (c : Dev nD) : RDat τ (Elt F) (HIx 1) ℕ UU ℕ (pin (pcfgs (F := F)) adm 0) c where
  A w := V (Proc.devRef .tc (arrRef (pin (pcfgs (F := F)) adm 0).spec w))
  after w t Y X := match w with
    | ⟨0, _⟩ => X = Y
    | ⟨1, _⟩ => X = Y
    | ⟨2, _⟩ => X = Y
    | ⟨3, _⟩ => X = Y
    | ⟨4, _⟩ => X = Y
    | ⟨5, _⟩ => GruAt V c t X
  Φ _ := gruRest c
  q _ := fullShare
  owed _ := 0
  recorded _ := lowPairs (F := F) c

/-- The block of operand 0 that the body finds. -/
theorem gru_finds0 (c : Dev nD) (t : Fin cfg1.N) (Y) (h : (gruDat V c).Finds 0 t Y) : ∃ d, Y = gruFt V c 0 t d :=
  ((gruDat V c).finds_of_fetch (fetch1_0 t) Y).mp h
/-- The block of operand 1 that the body finds. -/
theorem gru_finds1 (c : Dev nD) (t : Fin cfg1.N) (Y) (h : (gruDat V c).Finds 1 t Y) : ∃ d, Y = gruFt V c 1 t d :=
  ((gruDat V c).finds_of_fetch (fetch1_1 t) Y).mp h
/-- The block of operand 2 that the body finds. -/
theorem gru_finds2 (c : Dev nD) (t : Fin cfg1.N) (Y) (h : (gruDat V c).Finds 2 t Y) : ∃ d, Y = gruFt V c 2 t d :=
  ((gruDat V c).finds_of_fetch (fetch1_2 t) Y).mp h
/-- The block of operand 3 that the body finds. -/
theorem gru_finds3 (c : Dev nD) (t : Fin cfg1.N) (Y) (h : (gruDat V c).Finds 3 t Y) : ∃ d, Y = gruFt V c 3 t d :=
  ((gruDat V c).finds_of_fetch (fetch1_3 t) Y).mp h
/-- The block of operand 4 that the body finds. -/
theorem gru_finds4 (c : Dev nD) (t : Fin cfg1.N) (Y) (h : (gruDat V c).Finds 4 t Y) : ∃ d, Y = gruFt V c 4 t d :=
  ((gruDat V c).finds_of_fetch (fetch1_4 t) Y).mp h

/-- What the body leaves in the result’s block. -/
theorem gru_after (c : Dev nD) (t : Fin cfg1.N) (Y : (w : Fin 6) → (cfg1.win w).block.Idx → Elt F (cfg1.win w).elt)
    (hY : ∀ w, (gruDat V c).Finds w t (Y w)) : GruAt V c t (gruOut (Y 0) (Y 1) (Y 2) (Y 3) (Y 4)) := by
  obtain ⟨d0, h0⟩ := gru_finds0 V c t _ (hY 0)
  obtain ⟨d1, h1⟩ := gru_finds1 V c t _ (hY 1)
  obtain ⟨d2, h2⟩ := gru_finds2 V c t _ (hY 2)
  obtain ⟨d3, h3⟩ := gru_finds3 V c t _ (hY 3)
  obtain ⟨d4, h4⟩ := gru_finds4 V c t _ (hY 4)
  exact ⟨d0, d1, d2, d3, d4, by rw [h0, h1, h2, h3, h4]⟩

/-- The body at its point, between any two resources that it leaves alone. -/
theorem gru_core (c : Dev nD) (t : Fin cfg1.N) (A B : sProp 𝕄) (Y0 : Cert.KernelIdeal.S640x128.Idx → Elt F .f32) (Y1 : Cert.KernelIdeal.S640x1.Idx → Elt F .i32) (Y2 : Cert.KernelIdeal.S64x384.Idx → Elt F .f32)
    (Y3 : Cert.KernelIdeal.S128x384.Idx → Elt F .f32) (Y4 : Cert.KernelIdeal.S2x384.Idx → Elt F .f32) (Y5 : Cert.KernelIdeal.S32x20x128.Idx → Elt F .f32) (R : (Cert.KernelIdeal.S32x20x128.Idx → Elt F .f32) → Prop) (hR : R (gruOut Y0 Y1 Y2 Y3 Y4)) :
    iprop(A ∗ B ∗ owns (c : Thread nD τ) (st1_0 t) fullShare Y0 ∗ owns (c : Thread nD τ) (st1_1 t) fullShare Y1 ∗ owns (c : Thread nD τ) (st1_2 t) fullShare Y2 ∗ owns (c : Thread nD τ) (st1_3 t) fullShare Y3
        ∗ owns (c : Thread nD τ) (st1_4 t) fullShare Y4 ∗ owns (c : Thread nD τ) (st1_5 t) fullShare Y5)
      ⊢ wp frame (wpE (defs₀ (F := F)) 𝒱₀ (c : Thread nD τ) none) Set.univ (bodyAt1 t) fun _ =>
        iprop(A ∗ B ∗ (∃ X, ⌜X = Y0⌝ ∗ owns (c : Thread nD τ) (st1_0 t) fullShare X) ∗ (∃ X, ⌜X = Y1⌝ ∗ owns (c : Thread nD τ) (st1_1 t) fullShare X)
          ∗ (∃ X, ⌜X = Y2⌝ ∗ owns (c : Thread nD τ) (st1_2 t) fullShare X) ∗ (∃ X, ⌜X = Y3⌝ ∗ owns (c : Thread nD τ) (st1_3 t) fullShare X) ∗ (∃ X, ⌜X = Y4⌝ ∗ owns (c : Thread nD τ) (st1_4 t) fullShare X)
          ∗ (∃ X, ⌜R X⌝ ∗ owns (c : Thread nD τ) (st1_5 t) fullShare X)) := by
  iintro ⟨HΦ, Howes, H0, H1, H2, H3, H4, H5⟩
  iapply (gru_run c (st1_0 t) (hstage1_0 0) (st1_1 t) (hstage1_1 0)
    (st1_2 t) (hstage1_2 0) (st1_3 t) (hstage1_3 0) (st1_4 t) (hstage1_4 0) (st1_5 t) (hstage1_5 0)
    Y0 Y1 Y2 Y3 Y4 Y5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists Y0; isplitr; swap; (· iexact H0); ipureintro; rfl
  isplitl [H1]; · iexists Y1; isplitr; swap; (· iexact H1); ipureintro; rfl
  isplitl [H2]; · iexists Y2; isplitr; swap; (· iexact H2); ipureintro; rfl
  isplitl [H3]; · iexists Y3; isplitr; swap; (· iexact H3); ipureintro; rfl
  isplitl [H4]; · iexists Y4; isplitr; swap; (· iexact H4); ipureintro; rfl
  iexists _; isplitr; swap; (· iexact H5); ipureintro
  exact hR

/-- The body’s run at one grid point. -/
theorem gru_body (c : Dev nD) : (gruDat V c).BodyObligation (defs₀ (F := F)) 𝒱₀ none Set.univ := by
  intro t Y hY
  have hX := gru_after V c t Y hY
  rw [bigSep_W1, bigSep_W1]
  exact gru_core c t _ _ (Y 0) (Y 1) (Y 2) (Y 3) (Y 4) (Y 5) (GruAt V c t) hX

/-- What the call keeps from point to point, spelled out. -/
theorem gruDat_Φ (c : Dev nD) (t) : (gruDat V c).Φ t = gruRest c := rfl

/-- The recurrence entered from the buffers at `V`. -/
def gruRegion : RDat.RegionSeg (pcfgs (F := F)) adm (RDat.familyOf (pcfgs (F := F)) adm 0 (gruDat V)) none defs₀ 𝒱₀ noLevs lv0 0 := by
  refine region V (gruDat V) launch1 ?_ ?_ ?_ ?_ (gru_body V) ?_ ?_
  · intro c w; dsimp only [gruDat]
  · intro c w; dsimp only [gruDat]
  · intro c w; dsimp only [gruDat]
  · intro c w; dsimp only [gruDat]
  · intro c; rw [gruDat_Φ, gruRest_eq]
  · intro c; rw [gruDat_Φ, gruRest_eq]

end Cert.Proof.Lookup

end
-- ==== Proof.Stats.lean ====
/-
  The first pass over the vocabulary: its 49 points carry, in two scratch buffers, each row's running greatest logit and
  running sum of exponentials, and the last point leaves the offset the two give. Here: the body's run at the first point, at a point
  between, and at the last; the pipeline over it entered from any contents of the launch's buffers.
-/
module

public import proofs.«01_k».proof.Proof.Region

@[expose] public section

noncomputable section

namespace Cert.Proof.Lookup

open Cert.KernelIdeal Cert.KernelIdeal.Gen

open Idealize.ShloMosaic
open Idealize.ShloMosaic.SparseCore.Cfg (HIx)
open Idealize.ShloMosaic.Pipeline (RDat arrRef pin)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The test the body makes of the first point. -/
abbrev atFirst (i : grid2.Coords) : Prop := Scalar.cmpi .ne (Scalar.extui (Scalar.cmpi .eq (BitVec.ofNat 32 (i 0).val) 0#32) : BitVec 32) 0#32 = 1#1

/-- What the body keeps of the rows' greatest logits. -/
abbrev keepM (i : grid2.Coords) (X0 : Vec F S640x128 .f32) (X1 : Vec F S128x2048 .f32) (X2 : Vec F S1x2048 .f32) (m : Vec F S640x1 .f32) : Vec F S640x1 .f32 := k2_pay8 i X0 X1 X2 m
/-- What the body keeps of the rows' sums. -/
abbrev keepS (i : grid2.Coords) (X0 : Vec F S640x128 .f32) (X1 : Vec F S128x2048 .f32) (X2 : Vec F S1x2048 .f32) (m s : Vec F S640x1 .f32) : Vec F S640x1 .f32 := k2_pay1 (k2_pay7 i X0 X1 X2 m s)

/-- The first point. -/
theorem stats_first (c : Dev nD) (i : grid2.Coords) (hf : atFirst i) (hl : ¬ k2_cond2 i = 1#1) (M0 : Memref sig .tc .vmem S640x128 .f32) (h0 : M0.IsWhole)
    (M1 : Memref sig .tc .vmem S128x2048 .f32) (h1 : M1.IsWhole) (M2 : Memref sig .tc .vmem S1x2048 .f32) (h2 : M2.IsWhole)
    (M3 : Memref sig .tc .vmem S640x1 .f32) (h3 : M3.IsWhole) (M4 : Memref sig .tc .vmem S640x1 .f32) (h4 : M4.IsWhole) (M5 : Memref sig .tc .vmem S640x1 .f32) (h5 : M5.IsWhole)
    (X0 : Vec F S640x128 .f32) (X1 : Vec F S128x2048 .f32) (X2 : Vec F S1x2048 .f32) (X3 m s : Vec F S640x1 .f32)
    (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare m ∗ owns (c : Thread nD τ) M5 fullShare s
        ∗ (iprop(owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare (keepM i X0 X1 X2 k2_pay3)
          ∗ owns (c : Thread nD τ) M5 fullShare (keepS i X0 X1 X2 k2_pay3 k2_pay4)) -∗ Q ⟨⟩))
      ⊢ wp frame (wpE (defs₀ (F := F)) 𝒱₀ c none) E (cc2__stats_body i M0 h0 M1 h1 M2 h2 M3 h3 M4 h4 M5 h5) Q := by
  rw [owns_iff c M0 h0, owns_iff c M1 h1, owns_iff c M2 h2, owns_iff c M3 h3, owns_iff c M4 h4, owns_iff c M5 h5, owns_iff c M4 h4, owns_iff c M5 h5,
    cc2__stats_body_eq_skeleton]
  unfold cc2__stats_body_skel
  rw [k2_part1_eq_skeleton]
  unfold k2_part1_skel
  iintro ⟨⟨%f0, %e0, H0⟩, ⟨%f1, %e1, H1⟩, ⟨%f2, %e2, H2⟩, ⟨%f3, %e3, H3⟩, ⟨%f4, %e4, H4⟩, ⟨%f5, %e5, H5⟩, Hk⟩
  sl_exec!
  sl_step
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]
  · iexists _; isplitr; swap; (· iexact H4); ipureintro
    sl_unfold_words
    refine (read_whole_store M4.view _ hz2 _ _ []).trans ?_
    rw [View.readCov_unit_zero M4.view hz2,
    readAt_whole M0.view f0 hz2, readAt_whole M1.view f1 hz2, readAt_whole M2.view f2 hz2, e0, e1, e2]
  iexists _; isplitr; swap; (· iexact H5); ipureintro
  sl_unfold_words
  refine (read_whole_store M5.view _ hz2 _ _ []).trans ?_
  rw [View.readCov_unit_zero M4.view hz2, View.readCov_unit_zero M5.view hz2,
    readAt_whole M0.view f0 hz2, readAt_whole M1.view f1 hz2, readAt_whole M2.view f2 hz2, e0, e1, e2]

/-- A point between the first and the last. -/
theorem stats_mid (c : Dev nD) (i : grid2.Coords) (hf : ¬ atFirst i) (hl : ¬ k2_cond2 i = 1#1) (M0 : Memref sig .tc .vmem S640x128 .f32) (h0 : M0.IsWhole)
    (M1 : Memref sig .tc .vmem S128x2048 .f32) (h1 : M1.IsWhole) (M2 : Memref sig .tc .vmem S1x2048 .f32) (h2 : M2.IsWhole)
    (M3 : Memref sig .tc .vmem S640x1 .f32) (h3 : M3.IsWhole) (M4 : Memref sig .tc .vmem S640x1 .f32) (h4 : M4.IsWhole) (M5 : Memref sig .tc .vmem S640x1 .f32) (h5 : M5.IsWhole)
    (X0 : Vec F S640x128 .f32) (X1 : Vec F S128x2048 .f32) (X2 : Vec F S1x2048 .f32) (X3 m s : Vec F S640x1 .f32)
    (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare m ∗ owns (c : Thread nD τ) M5 fullShare s
        ∗ (iprop(owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare (keepM i X0 X1 X2 m)
          ∗ owns (c : Thread nD τ) M5 fullShare (keepS i X0 X1 X2 m s)) -∗ Q ⟨⟩))
      ⊢ wp frame (wpE (defs₀ (F := F)) 𝒱₀ c none) E (cc2__stats_body i M0 h0 M1 h1 M2 h2 M3 h3 M4 h4 M5 h5) Q := by
  rw [owns_iff c M0 h0, owns_iff c M1 h1, owns_iff c M2 h2, owns_iff c M3 h3, owns_iff c M4 h4, owns_iff c M5 h5, owns_iff c M4 h4, owns_iff c M5 h5,
    cc2__stats_body_eq_skeleton]
  unfold cc2__stats_body_skel
  rw [k2_part1_eq_skeleton]
  unfold k2_part1_skel
  iintro ⟨⟨%f0, %e0, H0⟩, ⟨%f1, %e1, H1⟩, ⟨%f2, %e2, H2⟩, ⟨%f3, %e3, H3⟩, ⟨%f4, %e4, H4⟩, ⟨%f5, %e5, H5⟩, Hk⟩
  sl_exec!
  sl_step
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]
  · iexists _; isplitr; swap; (· iexact H4); ipureintro
    sl_unfold_words
    refine (read_whole_store M4.view _ hz2 _ _ []).trans ?_
    rw [readAt_whole M4.view f4 hz2, readAt_whole M0.view f0 hz2, readAt_whole M1.view f1 hz2, readAt_whole M2.view f2 hz2, e0, e1, e2, e4]
  iexists _; isplitr; swap; (· iexact H5); ipureintro
  sl_unfold_words
  refine (read_whole_store M5.view _ hz2 _ _ []).trans ?_
  rw [readAt_whole M4.view f4 hz2, readAt_whole M5.view f5 hz2, readAt_whole M0.view f0 hz2, readAt_whole M1.view f1 hz2, readAt_whole M2.view f2 hz2, e0, e1, e2, e4, e5]

/-- The last point. -/
theorem stats_last (c : Dev nD) (i : grid2.Coords) (hf : ¬ atFirst i) (hl : k2_cond2 i = 1#1) (M0 : Memref sig .tc .vmem S640x128 .f32) (h0 : M0.IsWhole)
    (M1 : Memref sig .tc .vmem S128x2048 .f32) (h1 : M1.IsWhole) (M2 : Memref sig .tc .vmem S1x2048 .f32) (h2 : M2.IsWhole)
    (M3 : Memref sig .tc .vmem S640x1 .f32) (h3 : M3.IsWhole) (M4 : Memref sig .tc .vmem S640x1 .f32) (h4 : M4.IsWhole) (M5 : Memref sig .tc .vmem S640x1 .f32) (h5 : M5.IsWhole)
    (X0 : Vec F S640x128 .f32) (X1 : Vec F S128x2048 .f32) (X2 : Vec F S1x2048 .f32) (X3 m s : Vec F S640x1 .f32)
    (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare m ∗ owns (c : Thread nD τ) M5 fullShare s
        ∗ (iprop(owns (c : Thread nD τ) M0 fullShare X0 ∗ owns (c : Thread nD τ) M1 fullShare X1 ∗ owns (c : Thread nD τ) M2 fullShare X2
          ∗ owns (c : Thread nD τ) M3 fullShare (k2_pay2 (k2_pay6 i X0 X1 X2 m) (k2_pay7 i X0 X1 X2 m s)) ∗ owns (c : Thread nD τ) M4 fullShare (keepM i X0 X1 X2 m)
          ∗ owns (c : Thread nD τ) M5 fullShare (keepS i X0 X1 X2 m s)) -∗ Q ⟨⟩))
      ⊢ wp frame (wpE (defs₀ (F := F)) 𝒱₀ c none) E (cc2__stats_body i M0 h0 M1 h1 M2 h2 M3 h3 M4 h4 M5 h5) Q := by
  rw [owns_iff c M0 h0, owns_iff c M1 h1, owns_iff c M2 h2, owns_iff c M3 h3, owns_iff c M4 h4, owns_iff c M5 h5, owns_iff c M4 h4, owns_iff c M5 h5, owns_iff c M3 h3,
    cc2__stats_body_eq_skeleton]
  unfold cc2__stats_body_skel
  rw [k2_part1_eq_skeleton]
  unfold k2_part1_skel
  iintro ⟨⟨%f0, %e0, H0⟩, ⟨%f1, %e1, H1⟩, ⟨%f2, %e2, H2⟩, ⟨%f3, %e3, H3⟩, ⟨%f4, %e4, H4⟩, ⟨%f5, %e5, H5⟩, Hk⟩
  sl_exec!
  sl_step
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]
  · iexists _; isplitr; swap; (· iexact H3); ipureintro
    sl_unfold_words
    refine (read_whole_store M3.view _ hz2 _ _ []).trans ?_
    rw [readAt_whole M4.view f4 hz2, readAt_whole M5.view f5 hz2, readAt_whole M0.view f0 hz2, readAt_whole M1.view f1 hz2, readAt_whole M2.view f2 hz2, e0, e1, e2, e4, e5]
  isplitl [H4]
  · iexists _; isplitr; swap; (· iexact H4); ipureintro
    sl_unfold_words
    refine (read_whole_store M4.view _ hz2 _ _ []).trans ?_
    rw [readAt_whole M4.view f4 hz2, readAt_whole M0.view f0 hz2, readAt_whole M1.view f1 hz2, readAt_whole M2.view f2 hz2, e0, e1, e2, e4]
  iexists _; isplitr; swap; (· iexact H5); ipureintro
  sl_unfold_words
  refine (read_whole_store M5.view _ hz2 _ _ []).trans ?_
  rw [readAt_whole M4.view f4 hz2, readAt_whole M5.view f5 hz2, readAt_whole M0.view f0 hz2, readAt_whole M1.view f1 hz2, readAt_whole M2.view f2 hz2, e0, e1, e2, e4, e5]

/-! ## The pipeline -/

variable (V : Valuation τ sig (Elt F))

/-- What window `w`'s staging buffer holds once its block at point `t` is fetched, if it held `d`. -/
abbrev stFt (c : Dev nD) (w : Fin 4) (t : Fin cfg2.N) (d : (cfg2.win w).block.Idx → Elt F (cfg2.win w).elt) : (cfg2.win w).block.Idx → Elt F (cfg2.win w).elt :=
  (cfg2.win w).fill (cfg2.grid.coords t) d (((cfg2.win w).blk t).view.read (Elt F) (V (Proc.devRef .tc (arrRef cfg2.spec w))))

/-- What the two scratch buffers may hold after `n` points, the reset before the first counted in. -/
def Kept (c : Dev nD) : ℕ → Vec F S640x1 .f32 → Vec F S640x1 .f32 → Prop
  | 0, m, s => m = k2_pay3 ∧ s = k2_pay4
  | n + 1, m, s => ∃ m' s', Kept c n m' s' ∧ ∃ (h : n < cfg2.N) (d0 d1 d2 : _),
      m = keepM (grid2.coords ⟨n, h⟩) (stFt V c 0 ⟨n, h⟩ d0) (stFt V c 1 ⟨n, h⟩ d1) (stFt V c 2 ⟨n, h⟩ d2) m'
        ∧ s = keepS (grid2.coords ⟨n, h⟩) (stFt V c 0 ⟨n, h⟩ d0) (stFt V c 1 ⟨n, h⟩ d1) (stFt V c 2 ⟨n, h⟩ d2) m' s'

/-- What the last point may leave in the result's buffer. -/
def LeftAt (c : Dev nD) (t : Fin cfg2.N) (X : Vec F S640x1 .f32) : Prop :=
  ∃ m s d0 d1 d2, Kept V c t.val m s
    ∧ X = k2_pay2 (k2_pay6 (grid2.coords t) (stFt V c 0 t d0) (stFt V c 1 t d1) (stFt V c 2 t d2) m)
        (k2_pay7 (grid2.coords t) (stFt V c 0 t d0) (stFt V c 1 t d1) (stFt V c 2 t d2) m s)

/-- The scoped buffers that stay with the core untouched. -/
def statsBut (c : Dev nD) : sProp 𝕄 := Pipeline.scopedRestBut spec2 c [cc2_scratch0, cc2_scratch1]

/-- What stays with the core between points: the two scratch buffers, at what `n` points leave, and the rest. -/
def statsRest (c : Dev nD) (n : ℕ) : sProp 𝕄 :=
  iprop(∃ m s, ⌜0 < n → Kept V c n m s⌝ ∗ owns (c : Thread nD τ) (Memref.whole cc2_scratch0) fullShare m
    ∗ owns (c : Thread nD τ) (Memref.whole cc2_scratch1) fullShare s ∗ statsBut (F := F) c)

/-- The inputs' buffers are left as found; the result's is written at the last point. -/
def statsDat (c : Dev nD) : RDat τ (Elt F) (HIx 1) ℕ UU ℕ (pin (pcfgs (F := F)) adm 1) c where
  A w := V (Proc.devRef .tc (arrRef (pin (pcfgs (F := F)) adm 1).spec w))
  after w t Y X := match w with
    | ⟨0, _⟩ => X = Y
    | ⟨1, _⟩ => X = Y
    | ⟨2, _⟩ => X = Y
    | ⟨3, _⟩ => (t.val ≠ 48 → X = Y) ∧ (t.val = 48 → LeftAt V c t X)
  Φ t := statsRest V c t.val
  q _ := fullShare
  owed _ := 0
  recorded _ := lowPairs (F := F) c

/-- The block of operand 0 that the body finds. -/
theorem stats_finds0 (c : Dev nD) (t : Fin cfg2.N) (Y) (h : (statsDat V c).Finds 0 t Y) : ∃ d, Y = stFt V c 0 t d :=
  (statsDat V c).finds_in_eq_fetched 0 rfl (fun _ _ _ => rfl) (fun _ _ _ h => h) t _ h
/-- The block of operand 1 that the body finds. -/
theorem stats_finds1 (c : Dev nD) (t : Fin cfg2.N) (Y) (h : (statsDat V c).Finds 1 t Y) : ∃ d, Y = stFt V c 1 t d :=
  ((statsDat V c).finds_of_fetch (fetch2_1 t) Y).mp h
/-- The block of operand 2 that the body finds. -/
theorem stats_finds2 (c : Dev nD) (t : Fin cfg2.N) (Y) (h : (statsDat V c).Finds 2 t Y) : ∃ d, Y = stFt V c 2 t d :=
  ((statsDat V c).finds_of_fetch (fetch2_2 t) Y).mp h

/-- The body’s test for the first grid point holds at point zero only. -/
theorem atFirst_iff : ∀ t : Fin cfg2.N, atFirst (grid2.coords t) ↔ t.val = 0 :=
  (by decide : ∀ t : Fin grid2.N, atFirst (grid2.coords t) ↔ t.val = 0)
/-- The body’s test for the last grid point holds at point 48 only. -/
theorem atLast_iff : ∀ t : Fin cfg2.N, k2_cond2 (grid2.coords t) = 1#1 ↔ t.val = 48 :=
  (by decide : ∀ t : Fin grid2.N, k2_cond2 (grid2.coords t) = 1#1 ↔ t.val = 48)

/-- What is carried from one grid point to the next. -/
theorem kept_next (c : Dev nD) (t : Fin cfg2.N) {m s} (h : Kept V c t.val m s) (d0 d1 d2 : _) :
    Kept V c (t.val + 1) (keepM (grid2.coords t) (stFt V c 0 t d0) (stFt V c 1 t d1) (stFt V c 2 t d2) m)
      (keepS (grid2.coords t) (stFt V c 0 t d0) (stFt V c 1 t d1) (stFt V c 2 t d2) m s) :=
  ⟨m, s, h, t.isLt, d0, d1, d2, rfl, rfl⟩

/-- What is carried out of the first grid point. -/
theorem kept_first (c : Dev nD) (t : Fin cfg2.N) (h : t.val = 0) (d0 d1 d2 : _) :
    Kept V c (t.val + 1) (keepM (grid2.coords t) (stFt V c 0 t d0) (stFt V c 1 t d1) (stFt V c 2 t d2) k2_pay3)
      (keepS (grid2.coords t) (stFt V c 0 t d0) (stFt V c 1 t d1) (stFt V c 2 t d2) k2_pay3 k2_pay4) :=
  kept_next V c t (by rw [h]; exact ⟨rfl, rfl⟩) d0 d1 d2

/-- The body at point `t`, beside any resource that it leaves alone. -/
theorem stats_core (c : Dev nD) (t : Fin cfg2.N) (B : sProp 𝕄) (Y0 : Vec F S640x128 .f32) (Y1 : Vec F S128x2048 .f32) (Y2 : Vec F S1x2048 .f32)
    (Y3 : Vec F S640x1 .f32) (hY0 : ∃ d, Y0 = stFt V c 0 t d) (hY1 : ∃ d, Y1 = stFt V c 1 t d) (hY2 : ∃ d, Y2 = stFt V c 2 t d) :
    iprop(statsRest V c t.val ∗ B ∗ owns (c : Thread nD τ) (st2_0 t) fullShare Y0 ∗ owns (c : Thread nD τ) (st2_1 t) fullShare Y1 ∗ owns (c : Thread nD τ) (st2_2 t) fullShare Y2
        ∗ owns (c : Thread nD τ) (st2_3 t) fullShare Y3)
      ⊢ wp frame (wpE (defs₀ (F := F)) 𝒱₀ (c : Thread nD τ) none) Set.univ (bodyAt2 t) fun _ =>
        iprop(statsRest V c (t.val + 1) ∗ B ∗ (∃ X, ⌜X = Y0⌝ ∗ owns (c : Thread nD τ) (st2_0 t) fullShare X) ∗ (∃ X, ⌜X = Y1⌝ ∗ owns (c : Thread nD τ) (st2_1 t) fullShare X)
          ∗ (∃ X, ⌜X = Y2⌝ ∗ owns (c : Thread nD τ) (st2_2 t) fullShare X)
          ∗ (∃ X, ⌜(t.val ≠ 48 → X = Y3) ∧ (t.val = 48 → LeftAt V c t X)⌝ ∗ owns (c : Thread nD τ) (st2_3 t) fullShare X)) := by
  obtain ⟨d0, hY0⟩ := hY0
  obtain ⟨d1, hY1⟩ := hY1
  obtain ⟨d2, hY2⟩ := hY2
  unfold statsRest
  iintro ⟨⟨%m, %s, %hk, Hm, Hs, HR⟩, HB, H0, H1, H2, H3⟩
  by_cases h0 : t.val = 0
  · iapply (stats_first c (grid2.coords t) ((atFirst_iff t).mpr h0) (fun h => by have := (atLast_iff t).mp h; omega)
      (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3))
      (Memref.whole cc2_scratch0) (Memref.isWhole_whole _) (Memref.whole cc2_scratch1) (Memref.isWhole_whole _) Y0 Y1 Y2 Y3 m s Set.univ _)
    isplitl [H0]; · iexact H0
    isplitl [H1]; · iexact H1
    isplitl [H2]; · iexact H2
    isplitl [H3]; · iexact H3
    isplitl [Hm]; · iexact Hm
    isplitl [Hs]; · iexact Hs
    iintro ⟨H0, H1, H2, H3, Hm, Hs⟩
    isplitl [Hm Hs HR]
    · iexists _; iexists _
      isplitr; swap
      · isplitl [Hm]; · iexact Hm
        isplitl [Hs]; · iexact Hs
        iexact HR
      ipureintro; intro _
      exact (by rw [hY0, hY1, hY2]; exact kept_first V c t h0 d0 d1 d2)
    isplitl [HB]; · iexact HB
    isplitl [H0]; · iexists Y0; isplitr; swap; (· iexact H0); ipureintro; rfl
    isplitl [H1]; · iexists Y1; isplitr; swap; (· iexact H1); ipureintro; rfl
    isplitl [H2]; · iexists Y2; isplitr; swap; (· iexact H2); ipureintro; rfl
    iexists _; isplitr; swap; (· iexact H3); ipureintro
    exact ⟨fun _ => rfl, fun h => by omega⟩
  by_cases h1 : t.val = 48
  · iapply (stats_last c (grid2.coords t) (fun h => h0 ((atFirst_iff t).mp h)) ((atLast_iff t).mpr h1)
      (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3))
      (Memref.whole cc2_scratch0) (Memref.isWhole_whole _) (Memref.whole cc2_scratch1) (Memref.isWhole_whole _) Y0 Y1 Y2 Y3 m s Set.univ _)
    isplitl [H0]; · iexact H0
    isplitl [H1]; · iexact H1
    isplitl [H2]; · iexact H2
    isplitl [H3]; · iexact H3
    isplitl [Hm]; · iexact Hm
    isplitl [Hs]; · iexact Hs
    iintro ⟨H0, H1, H2, H3, Hm, Hs⟩
    isplitl [Hm Hs HR]
    · iexists _; iexists _
      isplitr; swap
      · isplitl [Hm]; · iexact Hm
        isplitl [Hs]; · iexact Hs
        iexact HR
      ipureintro; intro _
      exact (by rw [hY0, hY1, hY2]; exact kept_next V c t (hk (by omega)) d0 d1 d2)
    isplitl [HB]; · iexact HB
    isplitl [H0]; · iexists Y0; isplitr; swap; (· iexact H0); ipureintro; rfl
    isplitl [H1]; · iexists Y1; isplitr; swap; (· iexact H1); ipureintro; rfl
    isplitl [H2]; · iexists Y2; isplitr; swap; (· iexact H2); ipureintro; rfl
    iexists _; isplitr; swap; (· iexact H3); ipureintro
    exact ⟨fun h => absurd h1 h, fun _ => ⟨m, s, d0, d1, d2, hk (by omega), by rw [hY0, hY1, hY2]⟩⟩
  · iapply (stats_mid c (grid2.coords t) (fun h => h0 ((atFirst_iff t).mp h)) (fun h => h1 ((atLast_iff t).mp h))
      (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3))
      (Memref.whole cc2_scratch0) (Memref.isWhole_whole _) (Memref.whole cc2_scratch1) (Memref.isWhole_whole _) Y0 Y1 Y2 Y3 m s Set.univ _)
    isplitl [H0]; · iexact H0
    isplitl [H1]; · iexact H1
    isplitl [H2]; · iexact H2
    isplitl [H3]; · iexact H3
    isplitl [Hm]; · iexact Hm
    isplitl [Hs]; · iexact Hs
    iintro ⟨H0, H1, H2, H3, Hm, Hs⟩
    isplitl [Hm Hs HR]
    · iexists _; iexists _
      isplitr; swap
      · isplitl [Hm]; · iexact Hm
        isplitl [Hs]; · iexact Hs
        iexact HR
      ipureintro; intro _
      exact (by rw [hY0, hY1, hY2]; exact kept_next V c t (hk (by omega)) d0 d1 d2)
    isplitl [HB]; · iexact HB
    isplitl [H0]; · iexists Y0; isplitr; swap; (· iexact H0); ipureintro; rfl
    isplitl [H1]; · iexists Y1; isplitr; swap; (· iexact H1); ipureintro; rfl
    isplitl [H2]; · iexists Y2; isplitr; swap; (· iexact H2); ipureintro; rfl
    iexists _; isplitr; swap; (· iexact H3); ipureintro
    exact ⟨fun _ => rfl, fun h => absurd h h1⟩

/-- The body’s run at one grid point. -/
theorem stats_body (c : Dev nD) : (statsDat V c).BodyObligation (defs₀ (F := F)) 𝒱₀ none Set.univ := by
  intro t Y hY
  have h0 := stats_finds0 V c t _ (hY 0)
  have h1 := stats_finds1 V c t _ (hY 1)
  have h2 := stats_finds2 V c t _ (hY 2)
  rw [bigSep_W2, bigSep_W2]
  exact stats_core V c t _ (Y 0) (Y 1) (Y 2) (Y 3) h0 h1 h2

/-- What the call keeps from point to point, spelled out. -/
theorem statsDat_Φ (c : Dev nD) (t) : (statsDat V c).Φ t = statsRest V c t.val := rfl

/-- The scoped buffers the region does not stage are the two scratch buffers and the rest. -/
theorem stats_rest (c : Dev nD) : (Pipeline.scopedRest (pin (pcfgs (F := F)) adm 1).spec c : sProp 𝕄)
    = iprop(((∃ m, owns (c : Thread nD τ) (Memref.whole cc2_scratch0) fullShare m) ∗ (∃ s, owns (c : Thread nD τ) (Memref.whole cc2_scratch1) fullShare s)) ∗ statsBut (F := F) c) := by
  have h := Pipeline.scopedRest_split_of_list (τ := τ) (Ix := HIx 1) (Name := ℕ) (U := UU) (Lvl := ℕ) (Val := Elt F) spec2 c [cc2_scratch0, cc2_scratch1] (by decide) (by decide)
  rw [show (Pipeline.scopedRest (pin (pcfgs (F := F)) adm 1).spec c : sProp 𝕄) = Pipeline.scopedRest spec2 c from rfl, h]
  simp only [owns_whole, statsBut]
  rfl

/-- The first pass entered from the buffers at `V`. -/
def statsRegion : RDat.RegionSeg (pcfgs (F := F)) adm (RDat.familyOf (pcfgs (F := F)) adm 1 (statsDat V)) none defs₀ 𝒱₀ noLevs lv0 1 := by
  refine region V (statsDat V) launch2 ?_ ?_ ?_ ?_ (stats_body V) ?_ ?_
  · intro c w; dsimp only [statsDat]
  · intro c w; dsimp only [statsDat]
  · intro c w; dsimp only [statsDat]
  · intro c w; dsimp only [statsDat]
  · intro c; rw [statsDat_Φ, stats_rest]
    unfold statsRest
    iintro ⟨⟨⟨%m, Hm⟩, ⟨%s, Hs⟩⟩, HR⟩
    iexists m; iexists s; isplitr
    · ipureintro; exact fun h => absurd h (lt_irrefl _)
    isplitl [Hm]; · iexact Hm
    isplitl [Hs]; · iexact Hs
    iexact HR
  · intro c; rw [statsDat_Φ, stats_rest]
    unfold statsRest
    iintro ⟨%m, %s, -, Hm, Hs, HR⟩
    isplitr [HR]; swap; · iexact HR
    isplitl [Hm]; · iexists m; iexact Hm
    iexists s; iexact Hs

end Cert.Proof.Lookup

end
-- ==== Proof.Out.lean ====
/-
  The second pass over the vocabulary: at each of its 49 points the body reads the hidden rows, a block of the weight's
  columns, the same columns of the bias, and the rows' offsets, and leaves the block of probabilities they give. Here: the
  body's run, and the pipeline over it entered from any contents of the launch's buffers.
-/
module

public import proofs.«01_k».proof.Proof.Region

@[expose] public section

noncomputable section

namespace Cert.Proof.Lookup

open Cert.KernelIdeal Cert.KernelIdeal.Gen

open Idealize.ShloMosaic
open Idealize.ShloMosaic.SparseCore.Cfg (HIx)
open Idealize.ShloMosaic.Pipeline (RDat arrRef pin)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- One point's body: from the five staging buffers to the same with the result's holding the probabilities' block. -/
theorem out_run (c : Dev nD) (i : grid3.Coords) (M0 : Memref sig .tc .vmem S640x128 .f32) (h0 : M0.IsWhole)
    (M1 : Memref sig .tc .vmem S128x2048 .f32) (h1 : M1.IsWhole) (M2 : Memref sig .tc .vmem S1x2048 .f32) (h2 : M2.IsWhole)
    (M3 : Memref sig .tc .vmem S640x1 .f32) (h3 : M3.IsWhole) (M4 : Memref sig .tc .vmem S640x2048 .f32) (h4 : M4.IsWhole)
    (X0 : Vec F S640x128 .f32) (X1 : Vec F S128x2048 .f32) (X2 : Vec F S1x2048 .f32) (X3 : Vec F S640x1 .f32) (X4 : Vec F S640x2048 .f32)
    (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4
        ∗ (iprop(owns (c : Thread nD τ) M0 fullShare X0 ∗ owns (c : Thread nD τ) M1 fullShare X1 ∗ owns (c : Thread nD τ) M2 fullShare X2
          ∗ owns (c : Thread nD τ) M3 fullShare X3 ∗ owns (c : Thread nD τ) M4 fullShare (k3_pay1 X0 X1 X2 X3)) -∗ Q ⟨⟩))
      ⊢ wp frame (wpE (defs₀ (F := F)) 𝒱₀ c none) E (cc3__out_body i M0 h0 M1 h1 M2 h2 M3 h3 M4 h4) Q := by
  rw [owns_iff c M0 h0, owns_iff c M1 h1, owns_iff c M2 h2, owns_iff c M3 h3, owns_iff c M4 h4, owns_iff c M4 h4,
    cc3__out_body_eq_skeleton]
  unfold cc3__out_body_skel
  iintro ⟨⟨%f0, %e0, H0⟩, ⟨%f1, %e1, H1⟩, ⟨%f2, %e2, H2⟩, ⟨%f3, %e3, H3⟩, ⟨%f4, -, H4⟩, Hk⟩
  sl_exec!
  sl_step
  iapply Hk
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  iexists _; isplitr; swap; (· iexact H4); ipureintro
  sl_unfold_words
  refine (read_whole_store M4.view _ hz2 _ _ []).trans ?_
  rw [readAt_whole M0.view f0 hz2, readAt_whole M1.view f1 hz2, readAt_whole M2.view f2 hz2, readAt_whole M3.view f3 hz2]
  rw [e0, e1, e2, e3]

/-! ## The pipeline -/

variable (V : Valuation τ sig (Elt F))

/-- What window `w`'s staging buffer holds once its block at point `t` is fetched, if it held `d`. -/
abbrev outFt (c : Dev nD) (w : Fin 5) (t : Fin cfg3.N) (d : (cfg3.win w).block.Idx → Elt F (cfg3.win w).elt) : (cfg3.win w).block.Idx → Elt F (cfg3.win w).elt :=
  (cfg3.win w).fill (cfg3.grid.coords t) d (((cfg3.win w).blk t).view.read (Elt F) (V (Proc.devRef .tc (arrRef cfg3.spec w))))

/-- What the body makes of the blocks fetched at point `t`. -/
def OutAt (c : Dev nD) (t : Fin cfg3.N) (X : Vec F S640x2048 .f32) : Prop :=
  ∃ d0 d1 d2 d3, X = k3_pay1 (outFt V c 0 t d0) (outFt V c 1 t d1) (outFt V c 2 t d2) (outFt V c 3 t d3)

/-- What stays with the core between points: its scoped buffers that are no staging buffer. -/
def outRest (c : Dev nD) : sProp 𝕄 := Pipeline.scopedRest spec3 c

/-- The memory that the call does not stage, spelled out. -/
theorem outRest_eq (c : Dev nD) : (Pipeline.scopedRest (pin (pcfgs (F := F)) adm 2).spec c : sProp 𝕄) = outRest (F := F) c := rfl

/-- The inputs' buffers are left as found, the result's at the probabilities' block. -/
def outDat (c : Dev nD) : RDat τ (Elt F) (HIx 1) ℕ UU ℕ (pin (pcfgs (F := F)) adm 2) c where
  A w := V (Proc.devRef .tc (arrRef (pin (pcfgs (F := F)) adm 2).spec w))
  after w t Y X := match w with
    | ⟨0, _⟩ => X = Y
    | ⟨1, _⟩ => X = Y
    | ⟨2, _⟩ => X = Y
    | ⟨3, _⟩ => X = Y
    | ⟨4, _⟩ => OutAt V c t X
  Φ _ := outRest c
  q _ := fullShare
  owed _ := 0
  recorded _ := lowPairs (F := F) c

/-- The block of operand 0 that the body finds. -/
theorem out_finds0 (c : Dev nD) (t : Fin cfg3.N) (Y) (h : (outDat V c).Finds 0 t Y) : ∃ d, Y = outFt V c 0 t d :=
  (outDat V c).finds_in_eq_fetched 0 rfl (fun _ _ _ => rfl) (fun _ _ _ h => h) t _ h
/-- The block of operand 1 that the body finds. -/
theorem out_finds1 (c : Dev nD) (t : Fin cfg3.N) (Y) (h : (outDat V c).Finds 1 t Y) : ∃ d, Y = outFt V c 1 t d :=
  ((outDat V c).finds_of_fetch (fetch3_1 t) Y).mp h
/-- The block of operand 2 that the body finds. -/
theorem out_finds2 (c : Dev nD) (t : Fin cfg3.N) (Y) (h : (outDat V c).Finds 2 t Y) : ∃ d, Y = outFt V c 2 t d :=
  ((outDat V c).finds_of_fetch (fetch3_2 t) Y).mp h
/-- The block of operand 3 that the body finds. -/
theorem out_finds3 (c : Dev nD) (t : Fin cfg3.N) (Y) (h : (outDat V c).Finds 3 t Y) : ∃ d, Y = outFt V c 3 t d :=
  (outDat V c).finds_in_eq_fetched 3 rfl (fun _ _ _ => rfl) (fun _ _ _ h => h) t _ h

/-- What the body leaves in the result’s block. -/
theorem out_after (c : Dev nD) (t : Fin cfg3.N) (Y : (w : Fin 5) → (cfg3.win w).block.Idx → Elt F (cfg3.win w).elt)
    (hY : ∀ w, (outDat V c).Finds w t (Y w)) : OutAt V c t (k3_pay1 (Y 0) (Y 1) (Y 2) (Y 3)) := by
  obtain ⟨d0, h0⟩ := out_finds0 V c t _ (hY 0)
  obtain ⟨d1, h1⟩ := out_finds1 V c t _ (hY 1)
  obtain ⟨d2, h2⟩ := out_finds2 V c t _ (hY 2)
  obtain ⟨d3, h3⟩ := out_finds3 V c t _ (hY 3)
  exact ⟨d0, d1, d2, d3, by rw [h0, h1, h2, h3]⟩

/-- The body at point `t`, between any two resources that it leaves alone. -/
theorem out_core (c : Dev nD) (t : Fin cfg3.N) (A B : sProp 𝕄) (Y0 : Cert.KernelIdeal.S640x128.Idx → Elt F .f32) (Y1 : Cert.KernelIdeal.S128x2048.Idx → Elt F .f32) (Y2 : Cert.KernelIdeal.S1x2048.Idx → Elt F .f32)
    (Y3 : Cert.KernelIdeal.S640x1.Idx → Elt F .f32) (Y4 : Cert.KernelIdeal.S640x2048.Idx → Elt F .f32) (R : (Cert.KernelIdeal.S640x2048.Idx → Elt F .f32) → Prop) (hR : R (k3_pay1 Y0 Y1 Y2 Y3)) :
    iprop(A ∗ B ∗ owns (c : Thread nD τ) (st3_0 t) fullShare Y0 ∗ owns (c : Thread nD τ) (st3_1 t) fullShare Y1 ∗ owns (c : Thread nD τ) (st3_2 t) fullShare Y2 ∗ owns (c : Thread nD τ) (st3_3 t) fullShare Y3
        ∗ owns (c : Thread nD τ) (st3_4 t) fullShare Y4)
      ⊢ wp frame (wpE (defs₀ (F := F)) 𝒱₀ (c : Thread nD τ) none) Set.univ (bodyAt3 t) fun _ =>
        iprop(A ∗ B ∗ (∃ X, ⌜X = Y0⌝ ∗ owns (c : Thread nD τ) (st3_0 t) fullShare X) ∗ (∃ X, ⌜X = Y1⌝ ∗ owns (c : Thread nD τ) (st3_1 t) fullShare X)
          ∗ (∃ X, ⌜X = Y2⌝ ∗ owns (c : Thread nD τ) (st3_2 t) fullShare X) ∗ (∃ X, ⌜X = Y3⌝ ∗ owns (c : Thread nD τ) (st3_3 t) fullShare X) ∗ (∃ X, ⌜R X⌝ ∗ owns (c : Thread nD τ) (st3_4 t) fullShare X)) := by
  iintro ⟨HΦ, Howes, H0, H1, H2, H3, H4⟩
  iapply (out_run c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3)) (st3_4 t) (hstage3_4 ((cfg3.slots t 4).cast nbuf3_4))
    Y0 Y1 Y2 Y3 Y4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists Y0; isplitr; swap; (· iexact H0); ipureintro; rfl
  isplitl [H1]; · iexists Y1; isplitr; swap; (· iexact H1); ipureintro; rfl
  isplitl [H2]; · iexists Y2; isplitr; swap; (· iexact H2); ipureintro; rfl
  isplitl [H3]; · iexists Y3; isplitr; swap; (· iexact H3); ipureintro; rfl
  iexists _; isplitr; swap; (· iexact H4); ipureintro
  exact hR

/-- The body’s run at one grid point. -/
theorem out_body (c : Dev nD) : (outDat V c).BodyObligation (defs₀ (F := F)) 𝒱₀ none Set.univ := by
  intro t Y hY
  have hX := out_after V c t Y hY
  rw [bigSep_W3, bigSep_W3]
  exact out_core c t _ _ (Y 0) (Y 1) (Y 2) (Y 3) (Y 4) (OutAt V c t) hX

/-- What the call keeps from point to point, spelled out. -/
theorem outDat_Φ (c : Dev nD) (t) : (outDat V c).Φ t = outRest c := rfl

/-- The second pass entered from the buffers at `V`. -/
def outRegion : RDat.RegionSeg (pcfgs (F := F)) adm (RDat.familyOf (pcfgs (F := F)) adm 2 (outDat V)) none defs₀ 𝒱₀ noLevs lv0 2 := by
  refine region V (outDat V) launch3 ?_ ?_ ?_ ?_ (out_body V) ?_ ?_
  · intro c w; dsimp only [outDat]
  · intro c w; dsimp only [outDat]
  · intro c w; dsimp only [outDat]
  · intro c w; dsimp only [outDat]
  · intro c; rw [outDat_Φ, outRest_eq]
  · intro c; rw [outDat_Φ, outRest_eq]

end Cert.Proof.Lookup

end
-- ==== Proof.Launch.lean ====
/-
  @main: the host's index lists and paired table, the SparseCore call over them, the recurrence, the two passes over the
  vocabulary and the host operations between them; and the whole program's run, with what every buffer may finally hold.
-/
module

public import proofs.«01_k».proof.Proof.Call
public import proofs.«01_k».proof.Proof.Gru
public import proofs.«01_k».proof.Proof.Stats
public import proofs.«01_k».proof.Proof.Out
public import Idealize.ShloMosaic.Lib.Pipeline.Frame

@[expose] public section

noncomputable section

namespace Cert.Proof.Lookup

open Cert.KernelIdeal Cert.KernelIdeal.Gen

open Idealize.ShloMosaic
open Idealize.ShloMosaic.Pipeline (RDat arrRef pin)
open Idealize.ShloMosaic.TcCoe
open Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's operations -/

/-- The ids flattened. -/
abbrev opsI : List (HloOp τ sig (Elt F)) :=
  [ unary main_arg0 main_v0 ((transpose S20x32 [1, 0] · transposes_S32x20_S20x32_1_0) : (⟨S32x20, .i32⟩ : BufTy).Contents (Elt F) → (⟨S20x32, .i32⟩ : BufTy).Contents (Elt F)),
    reshape main_v0 main_v1 (rfl : (.i32 : EltTy) = .i32) shapeCasts_S20x32_S640,
    nullary main_c (constantI S_ 32 2#32) ]

/-- Each id's row of pairs: the id divided by two. -/
abbrev opsDiv : List (HloOp τ sig (Elt F)) :=
  [ TRef.unary (TRef.of (T := ⟨S_, .i32⟩) main_c) (TRef.of (T := ⟨S_, .i32⟩) main_call0_v0) id,
    TRef.unary (TRef.of (T := ⟨S_, .i32⟩) main_call0_v0) (TRef.of (T := ⟨S640, .i32⟩) main_call0_v1) (broadcastInDim S640 ![] bcast_S_S640),
    TRef.binary (TRef.of (T := ⟨S640, .i32⟩) main_v1) (TRef.of (T := ⟨S640, .i32⟩) main_call0_v1) (TRef.of (T := ⟨S640, .i32⟩) main_call0_v2) Host.divsi,
    TRef.unary (TRef.of (T := ⟨S640, .i32⟩) main_v1) (TRef.of (T := ⟨S640, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S640, .i32⟩) main_call0_v5) (broadcastInDim S640 ![] bcast_S_S640),
    TRef.binary (TRef.of (T := ⟨S640, .i32⟩) main_call0_v3) (TRef.of (T := ⟨S640, .i32⟩) main_call0_v5) (TRef.of (T := ⟨S640, .i1⟩) main_call0_v6) (cmpi .ne),
    TRef.unary (TRef.of (T := ⟨S_, .i32⟩) main_call0_v0) (TRef.of (T := ⟨S640, .i32⟩) main_call0_v7) (broadcastInDim S640 ![] bcast_S_S640),
    TRef.binary (TRef.of (T := ⟨S640, .i32⟩) main_v1) (TRef.of (T := ⟨S640, .i32⟩) main_call0_v7) (TRef.of (T := ⟨S640, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S640, .i32⟩) main_call0_v9) (broadcastInDim S640 ![] bcast_S_S640),
    TRef.binary (TRef.of (T := ⟨S640, .i32⟩) main_call0_v8) (TRef.of (T := ⟨S640, .i32⟩) main_call0_v9) (TRef.of (T := ⟨S640, .i1⟩) main_call0_v10) (cmpi .ne),
    TRef.binary (TRef.of (T := ⟨S640, .i1⟩) main_call0_v6) (TRef.of (T := ⟨S640, .i1⟩) main_call0_v10) (TRef.of (T := ⟨S640, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S640, .i32⟩) main_call0_v12) (broadcastInDim S640 ![] bcast_S_S640),
    TRef.binary (TRef.of (T := ⟨S640, .i32⟩) main_call0_v2) (TRef.of (T := ⟨S640, .i32⟩) main_call0_v12) (TRef.of (T := ⟨S640, .i32⟩) main_call0_v13) subi,
    TRef.ternary (TRef.of (T := ⟨S640, .i1⟩) main_call0_v11) (TRef.of (T := ⟨S640, .i32⟩) main_call0_v13) (TRef.of (T := ⟨S640, .i32⟩) main_call0_v2) (TRef.of (T := ⟨S640, .i32⟩) main_v2) select ]

/-- The divisor again. -/
abbrev opsJ : List (HloOp τ sig (Elt F)) :=
  [ nullary main_c_0 (constantI S_ 32 2#32) ]

/-- Each id's half of its row: the remainder. -/
abbrev opsRem : List (HloOp τ sig (Elt F)) :=
  [ TRef.unary (TRef.of (T := ⟨S_, .i32⟩) main_c_0) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S640, .i32⟩) main_call1_v3) (broadcastInDim S640 ![] bcast_S_S640),
    TRef.binary (TRef.of (T := ⟨S640, .i32⟩) main_v1) (TRef.of (T := ⟨S640, .i32⟩) main_call1_v3) (TRef.of (T := ⟨S640, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S640, .i32⟩) main_call1_v5) (broadcastInDim S640 ![] bcast_S_S640),
    TRef.binary (TRef.of (T := ⟨S640, .i32⟩) main_call1_v4) (TRef.of (T := ⟨S640, .i32⟩) main_call1_v5) (TRef.of (T := ⟨S640, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S640, .i32⟩) main_call1_v7) (broadcastInDim S640 ![] bcast_S_S640),
    TRef.binary (TRef.of (T := ⟨S640, .i32⟩) main_call1_v4) (TRef.of (T := ⟨S640, .i32⟩) main_call1_v7) (TRef.of (T := ⟨S640, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S640, .i1⟩) main_call1_v10) (broadcastInDim S640 ![] bcast_S_S640),
    TRef.binary (TRef.of (T := ⟨S640, .i1⟩) main_call1_v8) (TRef.of (T := ⟨S640, .i1⟩) main_call1_v10) (TRef.of (T := ⟨S640, .i1⟩) main_call1_v11) (cmpi .ne),
    TRef.binary (TRef.of (T := ⟨S640, .i1⟩) main_call1_v11) (TRef.of (T := ⟨S640, .i1⟩) main_call1_v6) (TRef.of (T := ⟨S640, .i1⟩) main_call1_v12) andi,
    TRef.unary (TRef.of (T := ⟨S_, .i32⟩) main_call1_v2) (TRef.of (T := ⟨S640, .i32⟩) main_call1_v13) (broadcastInDim S640 ![] bcast_S_S640),
    TRef.binary (TRef.of (T := ⟨S640, .i32⟩) main_call1_v4) (TRef.of (T := ⟨S640, .i32⟩) main_call1_v13) (TRef.of (T := ⟨S640, .i32⟩) main_call1_v14) addi,
    TRef.ternary (TRef.of (T := ⟨S640, .i1⟩) main_call1_v12) (TRef.of (T := ⟨S640, .i32⟩) main_call1_v14) (TRef.of (T := ⟨S640, .i32⟩) main_call1_v4) (TRef.of (T := ⟨S640, .i32⟩) main_v3) select ]

/-- The halves as a column, the row list padded with zeros, the table in paired rows. -/
abbrev opsK : List (HloOp τ sig (Elt F)) :=
  [ reshape main_v3 main_v4 (rfl : (.i32 : EltTy) = .i32) shapeCasts_S640_S640x1,
    nullary main_c_1 (constantI S_ 32 0#32),
    unary main_c_1 main_v5 (broadcastInDim S128 ![] bcast_S_S128 : (⟨S_, .i32⟩ : BufTy).Contents (Elt F) → (⟨S128, .i32⟩ : BufTy).Contents (Elt F)),
    binary main_v2 main_v5 main_v6 ((fun a b => concatenate S768 0 [⟨S640, a⟩, ⟨S128, b⟩] concatenates_S640_S128_S768_d0) : (⟨S640, .i32⟩ : BufTy).Contents (Elt F) → (⟨S128, .i32⟩ : BufTy).Contents (Elt F) → (⟨S768, .i32⟩ : BufTy).Contents (Elt F)),
    reshape main_arg1 main_v7 (rfl : (.f32 : EltTy) = .f32) shapeCasts_S100000x64_S50000x128 ]

/-- Between the call and the recurrence: the rows that are results. -/
abbrev opsA : List (HloOp τ sig (Elt F)) :=
  [ unary main_v8 main_v9 ((extractStridedSlice S640x128 ![0, 0] · slices_S768x128_S640x128_0_0) : (⟨S768x128, .f32⟩ : BufTy).Contents (Elt F) → (⟨S640x128, .f32⟩ : BufTy).Contents (Elt F)) ]

/-- Between the recurrence and the first pass: the states flattened, the bias as a row. -/
abbrev opsB : List (HloOp τ sig (Elt F)) :=
  [ reshape main_v10 main_v11 (rfl : (.f32 : EltTy) = .f32) shapeCasts_S32x20x128_S640x128,
    reshape main_arg6 main_v12 (rfl : (.f32 : EltTy) = .f32) shapeCasts_S100000_S1x100000 ]

/-- After the second pass: the result in the two batch axes. -/
abbrev opsC : List (HloOp τ sig (Elt F)) :=
  [ reshape main_v14 main_v15 (rfl : (.f32 : EltTy) = .f32) shapeCasts_S640x100000_S32x20x100000 ]

/-- These host lines touch only unscoped arrays. -/
theorem opsI_sub : (opsI : List (HloOp τ sig (Elt F))).Forall fun op => op.bufs ⊆ tcRefs τ sig := ⟨unary_bufs_sub .., reshape_bufs_sub .., nullary_bufs_sub ..⟩
/-- None of these host lines makes a fresh array. -/
theorem opsI_fresh : (opsI : List (HloOp τ sig (Elt F))).Forall fun op => op.fresh = ∅ := ⟨rfl, rfl, rfl⟩
/-- These host lines touch only unscoped arrays. -/
theorem opsDiv_sub : (opsDiv : List (HloOp τ sig (Elt F))).Forall fun op => op.bufs ⊆ tcRefs τ sig := ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
/-- None of these host lines makes a fresh array. -/
theorem opsDiv_fresh : (opsDiv : List (HloOp τ sig (Elt F))).Forall fun op => op.fresh = ∅ := ⟨rfl, rfl, rfl, rfl, rfl, rfl, rfl, rfl, rfl, rfl, rfl, rfl, rfl, rfl, rfl, rfl, rfl⟩
/-- These host lines touch only unscoped arrays. -/
theorem opsJ_sub : (opsJ : List (HloOp τ sig (Elt F))).Forall fun op => op.bufs ⊆ tcRefs τ sig := nullary_bufs_sub ..
/-- None of these host lines makes a fresh array. -/
theorem opsJ_fresh : (opsJ : List (HloOp τ sig (Elt F))).Forall fun op => op.fresh = ∅ := rfl
/-- These host lines touch only unscoped arrays. -/
theorem opsRem_sub : (opsRem : List (HloOp τ sig (Elt F))).Forall fun op => op.bufs ⊆ tcRefs τ sig := ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- None of these host lines makes a fresh array. -/
theorem opsRem_fresh : (opsRem : List (HloOp τ sig (Elt F))).Forall fun op => op.fresh = ∅ := ⟨rfl, rfl, rfl, rfl, rfl, rfl, rfl, rfl, rfl, rfl, rfl, rfl, rfl, rfl, rfl, rfl, rfl, rfl, rfl, rfl, rfl⟩
/-- These host lines touch only unscoped arrays. -/
theorem opsK_sub : (opsK : List (HloOp τ sig (Elt F))).Forall fun op => op.bufs ⊆ tcRefs τ sig := ⟨reshape_bufs_sub .., nullary_bufs_sub .., unary_bufs_sub .., binary_bufs_sub .., reshape_bufs_sub ..⟩
/-- None of these host lines makes a fresh array. -/
theorem opsK_fresh : (opsK : List (HloOp τ sig (Elt F))).Forall fun op => op.fresh = ∅ := ⟨rfl, rfl, rfl, rfl, rfl⟩
/-- These host lines touch only unscoped arrays. -/
theorem opsA_sub : (opsA : List (HloOp τ sig (Elt F))).Forall fun op => op.bufs ⊆ tcRefs τ sig := unary_bufs_sub ..
/-- None of these host lines makes a fresh array. -/
theorem opsA_fresh : (opsA : List (HloOp τ sig (Elt F))).Forall fun op => op.fresh = ∅ := rfl
/-- These host lines touch only unscoped arrays. -/
theorem opsB_sub : (opsB : List (HloOp τ sig (Elt F))).Forall fun op => op.bufs ⊆ tcRefs τ sig := ⟨reshape_bufs_sub .., reshape_bufs_sub ..⟩
/-- None of these host lines makes a fresh array. -/
theorem opsB_fresh : (opsB : List (HloOp τ sig (Elt F))).Forall fun op => op.fresh = ∅ := ⟨rfl, rfl⟩
/-- These host lines touch only unscoped arrays. -/
theorem opsC_sub : (opsC : List (HloOp τ sig (Elt F))).Forall fun op => op.bufs ⊆ tcRefs τ sig := reshape_bufs_sub ..
/-- None of these host lines makes a fresh array. -/
theorem opsC_fresh : (opsC : List (HloOp τ sig (Elt F))).Forall fun op => op.fresh = ∅ := rfl

/-- The entry of pipeline `p` from @main. -/
abbrev enterAt (p : Fin 3) : Prog (TpuEff nD τ sig (Elt F) (SparseCore.Sig (Pipeline.Sig Λ₀ (Fin 3) fun p => (pcfgs (F := F) p).Adm) 1) .tc) PUnit :=
  Prog.lift (.customCall (SparseCore.inner (Pipeline.entry p)) ())

/-- The printed text, as the lists of host lines and the calls. -/
theorem div_eq : fn_floor_divide.body (F := F) (.of main_v1) (.of main_c) main_call0 = seq opsDiv := rfl
/-- The printed text, as the lists of host lines and the calls. -/
theorem rem_eq : fn_remainder.body (F := F) (.of main_v1) (.of main_c_0) main_call1 = seq opsRem := rfl

/-- The printed text, as the lists of host lines and the calls. -/
theorem main_eq (d : Dev nD) : main (F := F) d = (seq opsI >>= fun _ => (seq opsDiv >>= fun _ => (seq opsJ >>= fun _ => (seq opsRem >>= fun _ => (seq opsK >>= fun _ =>
    ((K (F := F)).run d 0 >>= fun _ => (seq opsA >>= fun _ => (enterAt 0 >>= fun _ =>
    (seq opsB >>= fun _ => (enterAt 1 >>= fun _ => (enterAt 2 >>= fun _ => (seq opsC >>= fun _ => pure ⟨⟩)))))))))))) := by
  unfold main
  rw [div_eq, rem_eq]
  rfl

/-! ## Entering a pipeline -/

/-- What the launch deals core `d` for pipeline `p`'s cells. -/
abbrev ghostOf (d : Dev nD) (p : Fin 3) : sProp 𝕄 := iprop(Pipeline.cellsGhost (pin (pcfgs (F := F)) adm) EP p d ∗ Pipeline.toksInit (pin (pcfgs (F := F)) adm) EP p d)

/-- One pipeline run from @main: from the buffers at `V`, to contents it may leave. -/
theorem enter [∀ e, Nonempty (Elt F e)] (p : Fin 3) (V : Valuation τ sig (Elt F))
    (rd : (c : Dev nD) → RDat τ (Elt F) (HIx 1) ℕ UU ℕ (pin (pcfgs (F := F)) adm p) c)
    (R : RDat.RegionSeg (pcfgs (F := F)) adm (RDat.familyOf (pcfgs (F := F)) adm p rd) none defs₀ 𝒱₀ noLevs lv0 p) (d : Dev nD)
    (hpre : R.pre d = iprop(unscopedBufs d (fun b => V b) ∗ owesLow (F := F) d))
    (hpost : R.post d = iprop((∃ V' : Valuation τ sig (Elt F), ⌜Left V rd d V'⌝ ∗ unscopedBufs d (fun b => V' b)) ∗ owesLow (F := F) d))
    (Φ : PUnit → sProp 𝕄) :
    iprop(boundary (T d) ∗ held (T d) (Pipeline.ucRefs τ sig) V ∗ owesLow (F := F) d ∗ ghostOf (F := F) d p
        ∗ (iprop(boundary (T d) ∗ (∃ V' : Valuation τ sig (Elt F), ⌜Left V rd d V'⌝ ∗ held (T d) (Pipeline.ucRefs τ sig) V') ∗ owesLow (F := F) d) -∗ Φ ⟨⟩))
      ⊢ wp frame (wpE ((K (F := F)).defs (D (F := F))) 𝒱 (T d) none) Set.univ (enterAt (F := F) p) Φ := by
  have h0 := (K (F := F)).wp_liftProg (D (F := F)) 𝒱 (T d) Set.univ none (Prog.lift (.customCall (Pipeline.entry p) ())) Φ (Name := ℕ) (U := UU) (nD := nD)
  have h1 := RDat.RegionSeg.wp (pcfgs (F := F)) adm (RDat.familyOf (pcfgs (F := F)) adm p rd) none cellOf_inj EP defs₀ 𝒱₀ noLevs lv0 R d none (fun _ h => nomatch h) (fun x => .ret x) Φ
  rw [hpre, hpost] at h1
  iintro ⟨Hb, HV, HO, ⟨Hc, Ht⟩, Hk⟩
  iapply h0
  iapply h1
  isplitl [Hk]
  · iintro ⟨Hb, ⟨%V', %hV', HV⟩, HO⟩
    rw [wp_ret]; imodintro
    iapply Hk
    isplitl [Hb]; · iexact Hb
    isplitl [HV]
    · iexists V'; isplitr; · ipureintro; exact hV'
      rw [← Pipeline.unscopedBufs_held]; iexact HV
    iexact HO
  isplitl [Hb]; · iexact Hb
  isplitl [HV HO]
  · isplitl [HV]
    · rw [Pipeline.unscopedBufs_held]; iexact HV
    iexact HO
  isplitr
  · rw [show (levAts (noLevs) lv0 : sProp 𝕄) = iprop(emp) from by
      unfold levAts
      rw [bigSep_congr (fun g _ => bigSep_empty), bigSep_emp_const]
      rfl]
    iempintro
  isplitl [Hc]; · iexact Hc
  iexact Ht

/-! ## The launch element of the ghost state -/

omit [FloatOps F] [Named F] in
/-- Nothing is dealt to the workers’ other memories. -/
theorem deal_nothing {I : Type} (s : Finset I) : (bigSep s fun _ => iprop(emp)) = (iprop(emp) : sProp 𝕄) := bigSep_emp_const s

/-- The handshakes' cells, the pipelines' cells, and nothing else. -/
def u₀ : UU := (initOf (K (F := F)).hsCells (K (F := F)).hsToks,
  (initOf (Pipeline.cells (nD := nD) (pin (pcfgs (F := F)) adm) cellOf_inj) (Pipeline.launchToks (nD := nD) (pin (pcfgs (F := F)) adm) cellOf_inj), 1))

/-- What each core is dealt for the three pipelines. -/
abbrev G (d : Dev nD) : sProp 𝕄 := iprop(ghostOf (F := F) d 0 ∗ ghostOf (F := F) d 1 ∗ ghostOf (F := F) d 2)

/-- Both halves of each pipeline's share, gathered per core. -/
theorem deal_eq (A B : Dev nD → Fin 3 → sProp 𝕄) :
    iprop((bigSep Finset.univ fun c : Dev nD => bigSep Finset.univ fun p => A c p) ∗ (bigSep Finset.univ fun c : Dev nD => bigSep Finset.univ fun p => B c p))
      = bigSep Finset.univ fun c : Dev nD => iprop((A c 0 ∗ B c 0) ∗ (A c 1 ∗ B c 1) ∗ (A c 2 ∗ B c 2)) := by
  rw [← bigSep_sep']
  refine bigSep_congr fun c _ => ?_
  rw [← bigSep_sep', show (Finset.univ : Finset (Fin 3)) = {0, 1, 2} from rfl, SparseCore.bigSep_insert' (by decide), SparseCore.bigSep_insert' (by decide), bigSep_singleton]

variable (ci : (d : Dev nD) → Buf (Elt F) (iLoc d)) (cx : (d : Dev nD) → Buf (Elt F) (xLoc d)) (co : (d : Dev nD) → Buf (Elt F) (oLoc d))

/-- The launch element deals the handshakes' cells and each core's share of the pipelines'; the payloads keep nothing aside. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P ci cx co).x q thr) := by
  unfold u₀
  iintro Hu
  ihave H := (ownU_pair (initOf (K (F := F)).hsCells (K (F := F)).hsToks) _) $$ Hu
  icases H with ⟨HH, HR⟩
  ihave H := (own_pair_emb (embR : Emb (UP × Counters) (MT nD τ sig (HIx 1) (Elt F) ℕ UU ℕ)) _ (1 : Counters)) $$ HR
  icases H with ⟨HP, -⟩
  ihave HP := (show BI.own (((Emb.inl : Emb UP (UP × Counters)).trans (embR : Emb (UP × Counters) (MT nD τ sig (HIx 1) (Elt F) ℕ UU ℕ)))
      (initOf (Pipeline.cells (nD := nD) (pin (pcfgs (F := F)) adm) cellOf_inj) (Pipeline.launchToks (nD := nD) (pin (pcfgs (F := F)) adm) cellOf_inj))) ⊢ _ from
    Pipeline.fund_ghost (pin (pcfgs (F := F)) adm) (EP (F := F)) cellOf_inj) $$ HP
  imod HP with H
  imodintro
  isplitl [HH]; · iexact HH
  isplitl [H]
  · rw [← deal_eq (fun c p => Pipeline.cellsGhost (pin (pcfgs (F := F)) adm) EP p c) (fun c p => Pipeline.toksInit (pin (pcfgs (F := F)) adm) EP p c)]
    iexact H
  rw [show (bigSep Finset.univ fun thr : Thread nD τ => bigSep Finset.univ fun q : Fin 1 => (P ci cx co).x q thr) = bigSep Finset.univ fun _ => iprop(emp) from
    bigSep_congr fun _ _ => bigSep_univ_of_subsingleton (0 : Fin 1), deal_nothing]
  iempintro

/-! ## The buffers' contents along @main -/

variable (m : (ℓ : Loc nD τ sig) → Buf (Elt F) ℓ) (ρ : Dev nD → PrngReg)

abbrev iRef : DevRef τ sig := Proc.devRef .tc main_v6
abbrev xRef : DevRef τ sig := Proc.devRef .tc main_v7
abbrev oRef : DevRef τ sig := Proc.devRef .tc main_v8

/-- At the call. -/
def V₁ (d : Dev nD) : Valuation τ sig (Elt F) := after opsK (after opsRem (after opsJ (after opsDiv (after opsI fun b => m (d, b)))))
/-- The three arrays at the call. -/
abbrev ciM (d : Dev nD) : Buf (Elt F) (iLoc d) := V₁ m d iRef
abbrev cxM (d : Dev nD) : Buf (Elt F) (xLoc d) := V₁ m d xRef
abbrev coM (d : Dev nD) : Buf (Elt F) (oLoc d) := V₁ m d oRef
/-- After it. -/
def V₂ (d : Dev nD) : Valuation τ sig (Elt F) := Function.update (V₁ m d) oRef (got (ciM m) (cxM m) d)
/-- At the recurrence. -/
def V₃ (d : Dev nD) : Valuation τ sig (Elt F) := after opsA (V₂ m d)

/-- What the buffers may hold at the end: each pipeline's arrays at contents that pipeline may leave. -/
def EndRel (d : Dev nD) (V : Valuation τ sig (Elt F)) : Prop :=
  ∃ V₄ V₆ V₇ : Valuation τ sig (Elt F), Left (V₃ m d) (gruDat (V₃ m d)) d V₄ ∧ Left (after opsB V₄) (statsDat (after opsB V₄)) d V₆
    ∧ Left V₆ (outDat V₆) d V₇ ∧ V = after opsC V₇

abbrev callRefs : Finset (DevRef τ sig) := {iRef, xRef, oRef}
/-- The gather’s arrays are unscoped. -/
theorem callRefs_sub : callRefs ⊆ Pipeline.ucRefs τ sig := by
  intro b hb
  simp only [Finset.mem_insert, Finset.mem_singleton] at hb
  rcases hb with rfl | rfl | rfl <;> exact Finset.mem_filter.mpr ⟨devRef_mem_tcRefs _, by decide⟩

omit [FloatOps F] [Named F] in
/-- The call's three buffers held are its three arrays. -/
theorem held_call (d : Dev nD) (W : Valuation τ sig (Elt F)) :
    (held (T d) callRefs W : sProp 𝕄) = iprop((iLoc d ↦{fullShare} W iRef) ∗ (xLoc d ↦{fullShare} W xRef) ∗ oLoc d ↦{fullShare} W oRef) := by
  unfold held
  rw [show callRefs = {iRef, xRef, oRef} from rfl, SparseCore.bigSep_insert' (by decide), SparseCore.bigSep_insert' (by decide), bigSep_singleton]

/-- What the gather leaves in its indices. -/
theorem V₂_i (d : Dev nD) : V₂ m d iRef = ciM m d := Function.update_of_ne (by decide) ..
/-- What the gather leaves in its table. -/
theorem V₂_x (d : Dev nD) : V₂ m d xRef = cxM m d := Function.update_of_ne (by decide) ..
/-- What the gather leaves in its result. -/
theorem V₂_o (d : Dev nD) : V₂ m d oRef = got (ciM m) (cxM m) d := Function.update_self ..
/-- The gather leaves every other array. -/
theorem V₂_rest (d : Dev nD) (b : DevRef τ sig) (h : b ∉ callRefs) : V₁ m d b = V₂ m d b :=
  (Function.update_of_ne (fun e => h (by simp [e])) ..).symm

/-- What @main ends with. -/
abbrev FIN (d : Dev nD) : sProp 𝕄 := iprop(∃ V, ⌜EndRel m d V⌝ ∗ held (T d) (Pipeline.ucRefs τ sig) V)

omit [FloatOps F] [Named F] in
/-- The launch's buffers, held at their launch contents. -/
theorem unscoped_held (d : Dev nD) :
    (unscopedBufs d (fun b => m ((SparseCore.T d).loc b)) : sProp 𝕄) = held (SparseCore.T d) (Pipeline.ucRefs τ sig) (fun b => m (d, b)) :=
  Pipeline.unscopedBufs_held d (fun b => m (d, b))

/-- What the core's state after the call holds beside what it owes. -/
def tcMore (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The core's state after the call is what it owes, which is nothing, and the rest. -/
theorem tcSt_low (d : Dev nD) : (K (F := F)).tcSt EH d 1 = iprop(owesLow (F := F) d ∗ tcMore (F := F) d) := by
  unfold SparseCore.Cfg.tcSt owesLow tcMore
  rw [(K (F := F)).Otc_end d (le_refl 1)]
  rfl

/-- A line of host operations run in the middle of @main. -/
theorem host_line {β : Type} (d : Dev nD) (ops : List (HloOp τ sig (Elt F))) (hs : ops.Forall fun op => op.bufs ⊆ tcRefs τ sig)
    (hf : ops.Forall fun op => op.fresh = ∅) (V : Valuation τ sig (Elt F))
    (k : PUnit → Prog (TpuEff nD τ sig (Elt F) (SparseCore.Sig (Pipeline.Sig Λ₀ (Fin 3) fun p => (pcfgs (F := F) p).Adm) 1) .tc) β) (Φ : β → sProp 𝕄) :
    iprop(boundary (T d) ∗ held (T d) (Pipeline.ucRefs τ sig) V
      ∗ (iprop(boundary (T d) ∗ held (T d) (Pipeline.ucRefs τ sig) (after ops V)) -∗ wp frame (wpE ((K (F := F)).defs (D (F := F))) 𝒱 (T d) none) Set.univ (k ⟨⟩) Φ))
      ⊢ wp frame (wpE ((K (F := F)).defs (D (F := F))) 𝒱 (T d) none) Set.univ (seq ops >>= k) Φ := by
  iintro ⟨Hb, HV, Hk⟩
  iapply (wp_seq 𝒱 none Set.univ d (Pipeline.ucRefs τ sig) _ ops
    (fun op h => Pipeline.sub_ucRefs op (List.forall_iff_forall_mem.mp hs op h))
    (fun op h => List.forall_iff_forall_mem.mp hf op h) _) $$ [Hb HV]
  · isplitl [Hb] <;> iassumption
  iexact Hk

/-- @main on device `d`'s TensorCore. -/
theorem hmain [∀ e, Nonempty (Elt F e)] (κ : GSem nD τ sig → ℕ) (d : Dev nD) :
    iprop((K (F := F)).ctx EH (P (ciM m) (cxM m) (coM m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rewrite [unscoped_held m d, main_eq]
  iintro ⟨#Hctx, Hst, ⟨Hb, HV, Hts, -⟩, Hg0, Hg1, Hg2⟩
  iapply (host_line d opsI opsI_sub opsI_fresh _ _ _)
  isplitl [Hb]; · iexact Hb
  isplitl [HV]; · iexact HV
  iintro ⟨Hb, HV⟩
  iapply (host_line d opsDiv opsDiv_sub opsDiv_fresh _ _ _)
  isplitl [Hb]; · iexact Hb
  isplitl [HV]; · iexact HV
  iintro ⟨Hb, HV⟩
  iapply (host_line d opsJ opsJ_sub opsJ_fresh _ _ _)
  isplitl [Hb]; · iexact Hb
  isplitl [HV]; · iexact HV
  iintro ⟨Hb, HV⟩
  iapply (host_line d opsRem opsRem_sub opsRem_fresh _ _ _)
  isplitl [Hb]; · iexact Hb
  isplitl [HV]; · iexact HV
  iintro ⟨Hb, HV⟩
  iapply (host_line d opsK opsK_sub opsK_fresh _ _ _)
  isplitl [Hb]; · iexact Hb
  isplitl [HV]; · iexact HV
  iintro ⟨Hb, HV⟩
  ihave HV' := (Entails.of_eq (show (held (T d) (Pipeline.ucRefs τ sig) (after opsK (after opsRem (after opsJ (after opsDiv (after opsI fun b => m (d, b)))))) : sProp 𝕄)
    = iprop(((iLoc d ↦{fullShare} ciM m d) ∗ (xLoc d ↦{fullShare} cxM m d) ∗ oLoc d ↦{fullShare} coM m d) ∗ held (T d) (Pipeline.ucRefs τ sig \ callRefs) (V₁ m d)) from
      (held_sub_split _ callRefs_sub _).trans (by rw [held_call]; rfl))) $$ HV
  icases HV' with ⟨Harr, Hrest⟩
  rw [wp_bind]
  iapply (call_run (ciM m) (cxM m) (coM m) κ d) $$ [Hst Harr Hrest Hb Hts Hg0 Hg1 Hg2]
  isplitr; · iexact Hctx
  isplitl [Hst]; · iexact Hst
  isplitl [Harr]; · iexact Harr
  iintro ⟨Hst, Harr⟩
  ihave HV := (Entails.of_eq (show iprop(((iLoc d ↦{fullShare} ciM m d) ∗ (xLoc d ↦{fullShare} cxM m d) ∗ oLoc d ↦{fullShare} got (ciM m) (cxM m) d) ∗ held (T d) (Pipeline.ucRefs τ sig \ callRefs) (V₁ m d))
    = (held (T d) (Pipeline.ucRefs τ sig) (V₂ m d) : sProp 𝕄) from by
      rw [held_sub_split _ callRefs_sub, held_call, V₂_i, V₂_x, V₂_o, held_congr (V := V₁ m d) (V' := V₂ m d) _ (fun b hb => V₂_rest m d b (Finset.mem_sdiff.mp hb).2)])) $$ [Harr Hrest]
  · isplitl [Harr] <;> iassumption
  ihave Hst := (Entails.of_eq (tcSt_low (F := F) d)) $$ Hst
  icases Hst with ⟨HO, Hmore⟩
  iapply (host_line d opsA opsA_sub opsA_fresh _ _ _)
  isplitl [Hb]; · iexact Hb
  isplitl [HV]; · iexact HV
  iintro ⟨Hb, HV⟩
  rw [wp_bind]
  iapply (enter 0 (V₃ m d) (gruDat (V₃ m d)) (gruRegion (V₃ m d)) d rfl rfl _)
  isplitl [Hb]; · iexact Hb
  isplitl [HV]; · iexact HV
  isplitl [HO]; · iexact HO
  isplitl [Hg0]; · iexact Hg0
  iintro ⟨Hb, ⟨%V₄, %h₄, HV⟩, HO⟩
  iapply (host_line d opsB opsB_sub opsB_fresh _ _ _)
  isplitl [Hb]; · iexact Hb
  isplitl [HV]; · iexact HV
  iintro ⟨Hb, HV⟩
  rw [wp_bind]
  iapply (enter 1 (after opsB V₄) (statsDat (after opsB V₄)) (statsRegion (after opsB V₄)) d rfl rfl _)
  isplitl [Hb]; · iexact Hb
  isplitl [HV]; · iexact HV
  isplitl [HO]; · iexact HO
  isplitl [Hg1]; · iexact Hg1
  iintro ⟨Hb, ⟨%V₆, %h₆, HV⟩, HO⟩
  rw [wp_bind]
  iapply (enter 2 V₆ (outDat V₆) (outRegion V₆) d rfl rfl _)
  isplitl [Hb]; · iexact Hb
  isplitl [HV]; · iexact HV
  isplitl [HO]; · iexact HO
  isplitl [Hg2]; · iexact Hg2
  iintro ⟨Hb, ⟨%V₇, %h₇, HV⟩, HO⟩
  iapply (host_line d opsC opsC_sub opsC_fresh _ _ _)
  isplitl [Hb]; · iexact Hb
  isplitl [HV]; · iexact HV
  iintro ⟨Hb, HV⟩
  rw [wp_pure]; imodintro
  isplitl [HO Hmore]
  · rw [tcSt_low]
    isplitl [HO] <;> iassumption
  isplitl [HV]
  · iexists _; isplitr; swap; (· iexact HV)
    ipureintro; exact ⟨V₄, V₆, V₇, h₄, h₆, h₇, rfl⟩
  isplitl [Hb] <;> iassumption

/-- What a final state's memory is: every buffer of the device at contents it may hold at the end. -/
def fq (d : Dev nD) (s' : Phys nD τ sig (Elt F)) : Prop := ∃ V, EndRel m d V ∧ ∀ b ∈ Pipeline.ucRefs τ sig, s'.mem.mem (d, b) = V b

/-- What the run leaves, read from the end’s arrays. -/
theorem hfin (d : Dev nD) (s' : Phys nD τ sig (Elt F)) : iprop(FIN m d ∗ SI s') ⊢ (⌜fq m d s'⌝ : sProp 𝕄) := by
  iintro ⟨⟨%V, %hV, H⟩, HSI⟩
  ihave H := (show iprop(SI s' ∗ held (T d) (Pipeline.ucRefs τ sig) V) ⊢ (⌜∀ b ∈ Pipeline.ucRefs τ sig, s'.mem.mem (d, b) = V b⌝ : sProp 𝕄) from
    SI_pointsTo_bufs_agree (c := d) (qs := fun _ => fullShare) (F := V) (Pipeline.ucRefs τ sig)) $$ [HSI H]
  · isplitl [HSI]; · iexact HSI
    iexact H
  icases H with %h
  ipureintro
  exact ⟨V, hV, h⟩

/-- What the program's run ends with. -/
def QC : PUnit × MemSt nD τ sig (Elt F) → Prop := fun r =>
  (∀ d : Dev nD, ∃ V, EndRel m d V ∧ ∀ b ∈ Pipeline.ucRefs τ sig, r.2.mem (d, b) = V b) ∧ r.2.sem = fun _ => 0

/-- The program's run, from launch contents whose index list names rows of the table. -/
theorem run_main [∀ e, Nonempty (Elt F e)] (hpre : PreOK (ciM m)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (ciM m) (cxM m) (coM m)) (A := ∅) facts v₀
    (fun q hq => match q with | 0 => nomatch hq)
    (fun q _ => match q with | 0 => tileObl (ciM m) (cxM m) (coM m) facts hpre)
    (fun q _ => match q with | 0 => SparseCore.Cfg.VecSplit.of_plain (vecSplit (ciM m) (cxM m) (coM m)))
    m ρ main (fun d => G (F := F) d) (FIN m) (u₀ (F := F)) (sep_elim_left.trans (hu₀ (ciM m) (cxM m) (coM m))) (hmain m ρ) (fq m) (hfin m) (QC m) (fun _ h hz => ⟨h, hz⟩)

end Cert.Proof.Lookup

end
-- ==== Proof.Ids.lean ====
/-
  The host's index lists and paired table read at an index, the arguments left alone, and what the recurrence is handed.
-/
module

public import proofs.«01_k».proof.Proof.Launch
public import Idealize.ShloMosaic.Lib.Pointwise
public import Idealize.ShloMosaic.Lib.StableHlo.Predicate

@[expose] public section

noncomputable section

namespace Cert.Proof.Lookup

open Cert.KernelIdeal Cert.KernelIdeal.Gen

open Idealize.ShloMosaic
open Idealize.ShloMosaic.TcCoe
open Idealize.ShloMosaic.StableHlo
open Idealize.SL.Sem

variable {F : FTy → Type} [FloatOps F] [Named F]

/-! ## Words -/

/-- A word below 2³¹ halved towards minus infinity, as the host spells it. -/
theorem floor_two {v : BitVec 32} (h : v.toNat < 2 ^ 31) :
    (Scalar.select (IntOp.andi (IntOp.cmpi .ne (if v = 0 then 0 else if v.msb then -1 else 1) 1#32) (IntOp.cmpi .ne (IntOp.remsi .host v 2#32) 0#32))
      (IntOp.subi (IntOp.divsi .host v 2#32) 1#32) (IntOp.divsi .host v 2#32)).toNat = v.toNat / 2 := by
  have hm : v.msb = false := by rw [BitVec.msb_eq_false_iff_two_mul_lt]; omega
  by_cases hv : v = 0
  · subst hv; decide
  · rw [if_neg hv, hm, if_neg Bool.false_ne_true]
    rw [show IntOp.cmpi .ne (1 : BitVec 32) 1#32 = 0#1 from by decide]
    rw [show IntOp.andi 0#1 (IntOp.cmpi .ne (IntOp.remsi .host v 2#32) 0#32) = 0#1 from by simp [IntOp.andi]]
    exact Predicate.divsi_two .host v h

/-- The remainder of a word below 2³¹ by two. -/
theorem remsi_two {v : BitVec 32} (h : v.toNat < 2 ^ 31) : (IntOp.remsi .host v 2#32).toNat = v.toNat % 2 := by
  have hm : v.msb = false := by rw [BitVec.msb_eq_false_iff_two_mul_lt]; omega
  unfold IntOp.remsi
  rw [if_neg (by unfold IntOp.SDivCorner; intro hc; rcases hc with hc | hc; · exact absurd hc (by decide)
                 exact absurd hc.2 (by decide))]
  rw [BitVec.srem_eq, hm, show (2#32 : BitVec 32).msb = false from by decide]
  simp

/-- The same, as the host spells it. -/
theorem mod_two {v : BitVec 32} (h : v.toNat < 2 ^ 31) (w : BitVec 32) (hw : w = 2#32) :
    (Scalar.select (IntOp.andi (IntOp.cmpi .ne (IntOp.cmpi .slt (IntOp.remsi .host v w) 0#32) (IntOp.cmpi .slt w 0#32)) (IntOp.cmpi .ne (IntOp.remsi .host v w) 0#32))
      (IntOp.addi (IntOp.remsi .host v w) w) (IntOp.remsi .host v w)).toNat = v.toNat % 2 := by
  subst hw
  have hr := remsi_two h
  generalize hR : IntOp.remsi .host v 2#32 = R at *
  have hlt : R.toNat < 2 := by omega
  have : R = 0#32 ∨ R = 1#32 := by
    rcases Nat.lt_or_ge R.toNat 1 with h1 | h1
    · exact .inl (BitVec.eq_of_toNat_eq (by simp; omega))
    · exact .inr (BitVec.eq_of_toNat_eq (by simp; omega))
  rcases this with rfl | rfl
  · rw [← hr]; decide
  · rw [← hr]; decide

/-! ## The operation lists at the buffers that matter -/

variable (V : Valuation τ sig (Elt F))

/-- The halved ids from the ids and the divisor. -/
def halfList (x : S640.Idx → BitVec 32) (c : S_.Idx → BitVec 32) : S640.Idx → BitVec 32 :=
  select (andi (cmpi .ne (signi x) (broadcastInDim S640 ![] bcast_S_S640 (signi c))) (cmpi .ne (Host.remsi x (broadcastInDim S640 ![] bcast_S_S640 c)) (broadcastInDim S640 ![] bcast_S_S640 (constantI S_ 32 0#32))))
    (subi (Host.divsi x (broadcastInDim S640 ![] bcast_S_S640 c)) (broadcastInDim S640 ![] bcast_S_S640 (constantI S_ 32 1#32)))
    (Host.divsi x (broadcastInDim S640 ![] bcast_S_S640 c))

/-- The divisor of the remainder, zero replaced. -/
def safe (c : S_.Idx → BitVec 32) : S_.Idx → BitVec 32 := select (cmpi .eq c (constantI S_ 32 0#32)) (constantI S_ 32 1#32) c

/-- The ids' remainders from the ids and the divisor. -/
def oddList (x : S640.Idx → BitVec 32) (c : S_.Idx → BitVec 32) : S640.Idx → BitVec 32 :=
  select (andi (cmpi .ne (cmpi .slt (Host.remsi x (broadcastInDim S640 ![] bcast_S_S640 (safe c))) (broadcastInDim S640 ![] bcast_S_S640 (constantI S_ 32 0#32)))
        (broadcastInDim S640 ![] bcast_S_S640 (cmpi .slt (safe c) (constantI S_ 32 0#32))))
      (cmpi .ne (Host.remsi x (broadcastInDim S640 ![] bcast_S_S640 (safe c))) (broadcastInDim S640 ![] bcast_S_S640 (constantI S_ 32 0#32))))
    (addi (Host.remsi x (broadcastInDim S640 ![] bcast_S_S640 (safe c))) (broadcastInDim S640 ![] bcast_S_S640 (safe c)))
    (Host.remsi x (broadcastInDim S640 ![] bcast_S_S640 (safe c)))

/-- What these host lines leave in v2. -/
theorem opsDiv_v2 : after opsDiv V (Proc.devRef .tc main_v2) = halfList (V (Proc.devRef .tc main_v1)) (V (Proc.devRef .tc main_c)) := by
  simp only [opsDiv, TRef.binary, TRef.unary, TRef.nullary, TRef.ternary, TRef.toBuf, TRef.ofBuf, cast_eq]
  after_results <;> rfl

/-- What these host lines leave in v3. -/
theorem opsRem_v3 : after opsRem V (Proc.devRef .tc main_v3) = oddList (V (Proc.devRef .tc main_v1)) (V (Proc.devRef .tc main_c_0)) := by
  simp only [opsRem, TRef.binary, TRef.unary, TRef.nullary, TRef.ternary, TRef.toBuf, TRef.ofBuf, cast_eq]
  after_results <;> rfl

/-- What these host lines leave in v1. -/
theorem opsI_v1 : after opsI V (Proc.devRef .tc main_v1) = (shapeCast S640 (transpose S20x32 [1, 0] (V (Proc.devRef .tc main_arg0) : S32x20.Idx → BitVec 32) transposes_S32x20_S20x32_1_0) shapeCasts_S20x32_S640 : S640.Idx → BitVec 32) := by
  simp only [opsI]
  after_results <;> rfl

/-- What these host lines leave in c. -/
theorem opsI_c : after opsI V (Proc.devRef .tc main_c) = (constantI S_ 32 2#32 : S_.Idx → BitVec 32) := by
  simp only [opsI]
  after_results <;> rfl
/-- What these host lines leave in c. -/
theorem opsJ_c : after opsJ V (Proc.devRef .tc main_c_0) = (constantI S_ 32 2#32 : S_.Idx → BitVec 32) := by
  simp only [opsJ]
  after_results <;> rfl
/-- What these host lines leave in v4. -/
theorem opsK_v4 : after opsK V (Proc.devRef .tc main_v4) = (shapeCast S640x1 (V (Proc.devRef .tc main_v3) : S640.Idx → BitVec 32) shapeCasts_S640_S640x1 : S640x1.Idx → BitVec 32) := by
  simp only [opsK]
  after_results <;> rfl
/-- What these host lines leave in v6. -/
theorem opsK_v6 : after opsK V (Proc.devRef .tc main_v6) = (concatenate S768 0 [⟨S640, (V (Proc.devRef .tc main_v2) : S640.Idx → BitVec 32)⟩,
    ⟨S128, broadcastInDim S128 ![] bcast_S_S128 (constantI S_ 32 0#32)⟩] concatenates_S640_S128_S768_d0 : S768.Idx → BitVec 32) := by
  simp only [opsK]
  after_results <;> rfl
/-- What these host lines leave in v7. -/
theorem opsK_v7 : after opsK V (Proc.devRef .tc main_v7) = (shapeCast S50000x128 (V (Proc.devRef .tc main_arg1) : S100000x64.Idx → F .f32) shapeCasts_S100000x64_S50000x128 : S50000x128.Idx → F .f32) := by
  simp only [opsK]
  after_results <;> rfl

/-- A buffer none of the host's operations before the call writes. -/
def Early (b : Ref sig .tc) : Prop := ∀ V : Valuation τ sig (Elt F), after opsI V (Proc.devRef .tc b) = V (Proc.devRef .tc b)
  ∧ after opsDiv V (Proc.devRef .tc b) = V (Proc.devRef .tc b) ∧ after opsJ V (Proc.devRef .tc b) = V (Proc.devRef .tc b)
  ∧ after opsRem V (Proc.devRef .tc b) = V (Proc.devRef .tc b) ∧ after opsK V (Proc.devRef .tc b) = V (Proc.devRef .tc b)

/-- What these host lines leave in v1. -/
theorem opsDiv_v1 : after opsDiv V (Proc.devRef .tc main_v1) = V (Proc.devRef .tc main_v1) := by
  simp only [opsDiv, TRef.binary, TRef.unary, TRef.nullary, TRef.ternary, TRef.toBuf, TRef.ofBuf, cast_eq]
  after_results
/-- What these host lines leave in v1. -/
theorem opsJ_v1 : after opsJ V (Proc.devRef .tc main_v1) = V (Proc.devRef .tc main_v1) := by
  simp only [opsJ]
  after_results
/-- What these host lines leave in v2. -/
theorem opsJ_v2 : after opsJ V (Proc.devRef .tc main_v2) = V (Proc.devRef .tc main_v2) := by
  simp only [opsJ]
  after_results
/-- What these host lines leave in v2. -/
theorem opsRem_v2 : after opsRem V (Proc.devRef .tc main_v2) = V (Proc.devRef .tc main_v2) := by
  simp only [opsRem, TRef.binary, TRef.unary, TRef.nullary, TRef.ternary, TRef.toBuf, TRef.ofBuf, cast_eq]
  after_results

/-- The lines before the gather leave argument 0. -/
theorem early0 : Early (F := F) main_arg0 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results
/-- The lines before the gather leave argument 1. -/
theorem early1 : Early (F := F) main_arg1 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results
/-- The lines before the gather leave argument 2. -/
theorem early2 : Early (F := F) main_arg2 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results
/-- The lines before the gather leave argument 3. -/
theorem early3 : Early (F := F) main_arg3 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results
/-- The lines before the gather leave argument 4. -/
theorem early4 : Early (F := F) main_arg4 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results
/-- The lines before the gather leave argument 5. -/
theorem early5 : Early (F := F) main_arg5 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results
/-- The lines before the gather leave argument 6. -/
theorem early6 : Early (F := F) main_arg6 := fun V => by
  refine ⟨?_, ?_, ?_, ?_, ?_⟩ <;> simp only [opsI, opsJ, opsK, opsDiv, opsRem, TRef.binary, TRef.unary, TRef.nullary, TRef.ternary, TRef.toBuf, TRef.ofBuf, cast_eq] <;> after_results

variable (m : (ℓ : Loc nD τ sig) → Buf (Elt F) ℓ)

/-- An argument at the call. -/
theorem V₁_early (d : Dev nD) {b : Ref sig .tc} (h : Early (F := F) b) : V₁ m d (Proc.devRef .tc b) = m ((d.tc : Thread nD τ).loc b) := by
  unfold V₁
  rw [(h _).2.2.2.2, (h _).2.2.2.1, (h _).2.2.1, (h _).2.1, (h _).1]

/-- The arguments the lists are made of. -/
abbrev idsM (d : Dev nD) : S32x20.Idx → BitVec 32 := m ((d.tc : Thread nD τ).loc main_arg0)
abbrev tabM (d : Dev nD) : S100000x64.Idx → F .f32 := m ((d.tc : Thread nD τ).loc main_arg1)

/-- The ids flattened, time first. -/
abbrev flat (ids : S32x20.Idx → BitVec 32) : S640.Idx → BitVec 32 := shapeCast S640 (transpose S20x32 [1, 0] ids transposes_S32x20_S20x32_1_0) shapeCasts_S20x32_S640

/-- The array the gather starts from, in the words of the host lines. -/
theorem ciM_eq (d : Dev nD) : ciM m d = (concatenate S768 0 [⟨S640, halfList (flat (idsM m d)) (constantI S_ 32 2#32)⟩,
    ⟨S128, broadcastInDim S128 ![] bcast_S_S128 (constantI S_ 32 0#32)⟩] concatenates_S640_S128_S768_d0 : S768.Idx → BitVec 32) := by
  unfold ciM V₁
  rw [opsK_v6, opsRem_v2, opsJ_v2, opsDiv_v2, opsI_v1, opsI_c]

/-- The array the gather starts from, in the words of the host lines. -/
theorem cxM_eq (d : Dev nD) : cxM m d = (shapeCast S50000x128 (tabM m d) shapeCasts_S100000x64_S50000x128 : S50000x128.Idx → F .f32) := by
  unfold cxM V₁
  rw [opsK_v7, (early1 _).2.2.2.1, (early1 _).2.2.1, (early1 _).2.1, (early1 _).1]

/-- The array the gather starts from, in the words of the host lines. -/
theorem v4_eq (d : Dev nD) : V₁ m d (Proc.devRef .tc main_v4) = (shapeCast S640x1 (oddList (flat (idsM m d)) (constantI S_ 32 2#32)) shapeCasts_S640_S640x1 : S640x1.Idx → BitVec 32) := by
  unfold V₁
  rw [opsK_v4, opsRem_v3, opsJ_v1, opsJ_c, opsDiv_v1, opsI_v1]

/-- Every index names a row. -/
def InVocab (ids : S32x20.Idx → BitVec 32) : Prop := ∀ j, (ids j).toNat < 100000

/-- The id of token row `n` (time first). -/
abbrev tok (ids : S32x20.Idx → BitVec 32) (n : Fin 640) : BitVec 32 := ids (ix2 ⟨n.val % 32, by omega⟩ ⟨n.val / 32, by omega⟩)

/-- An entry of half. -/
theorem half_apply (ids : S32x20.Idx → BitVec 32) (h : InVocab ids) (n : Fin 640) :
    (halfList (flat ids) (constantI S_ 32 2#32) (ix1 n)).toNat = (tok ids n).toNat / 2 := by
  have hf := floor_two (v := tok ids n) (by have : (tok ids n).toNat < 100000 := h _; omega)
  refine Eq.trans (congrArg BitVec.toNat ?_) hf
  pointwise [halfList, flat, tok, signi]
  rfl

/-- An entry of odd. -/
theorem odd_apply (ids : S32x20.Idx → BitVec 32) (h : InVocab ids) (n : Fin 640) :
    (oddList (flat ids) (constantI S_ 32 2#32) (ix1 n)).toNat = (tok ids n).toNat % 2 := by
  have hf := mod_two (v := tok ids n) (by have : (tok ids n).toNat < 100000 := h _; omega) _ (show Scalar.select (IntOp.cmpi .eq 2#32 0#32) 1#32 2#32 = 2#32 from rfl)
  refine Eq.trans (congrArg BitVec.toNat ?_) hf
  pointwise [oddList, flat, tok, safe]

/-- An entry of ciM. -/
theorem ciM_apply (d : Dev nD) (h : InVocab (idsM m d)) (r : Fin 768) : (ciM m d (ix1 r) : BitVec 32).toNat
    = if hr : r.val < 640 then (tok (idsM m d) ⟨r.val, hr⟩).toNat / 2 else 0 := by
  rw [ciM_eq]
  by_cases hr : r.val < 640
  · rw [dif_pos hr, ← half_apply _ h]
    refine congrArg BitVec.toNat ?_
    generalize halfList (flat (idsM m d)) (constantI S_ 32 2#32) = x
    pointwise
    rw [dif_pos hr]
  · rw [dif_neg hr]
    generalize halfList (flat (idsM m d)) (constantI S_ 32 2#32) = x
    pointwise
    rw [dif_neg hr]
    rfl

/-- Indices that name rows make the gather’s rows exist. -/
theorem preOK_of (h : ∀ d, InVocab (idsM m d)) : PreOK (ciM m) := by
  intro d j
  have e := ciM_apply m d (h d) (j 0)
  have hj : j = ix1 (j 0) := by
    funext a
    match a with
    | 0 => rfl
  have key : ∀ v : BitVec 32, (v.toNat = if hr : (j 0).val < 640 then (tok (idsM m d) ⟨(j 0).val, hr⟩).toNat / 2 else 0) → v.toNat < 50000 := by
    intro v hv
    rw [hv]
    split
    · rename_i hr
      have : (tok (idsM m d) ⟨(j 0).val, hr⟩).toNat < 100000 := h d _
      omega
    · decide
  rw [hj]
  exact key _ e

/-- Lane `l` of pair `r` in the paired table is the table's row `2 r + l / 64` at `l % 64`. -/
theorem cxM_apply (d : Dev nD) (r : Fin 50000) (l : Fin 128) : cxM m d (ix2 r l) = tabM m d (ix2 ⟨2 * r.val + l.val / 64, by omega⟩ ⟨l.val % 64, by omega⟩) := by
  rw [cxM_eq]
  refine shapeCast_apply _ _ _ _ ?_
  rw [Shape.rowMajor_val_two, Shape.rowMajor_val_two]
  show (2 * r.val + l.val / 64) * 64 + l.val % 64 = r.val * 128 + l.val
  omega

/-- The rows the recurrence is handed: token row `n`'s pair. -/
theorem v9_apply (d : Dev nD) (h : InVocab (idsM m d)) (n : Fin 640) (l : Fin 128) :
    (V₃ m d (Proc.devRef .tc main_v9) : S640x128.Idx → F .f32) (ix2 n l)
      = tabM m d (ix2 ⟨2 * ((tok (idsM m d) n).toNat / 2) + l.val / 64, by have : (tok (idsM m d) n).toNat < 100000 := h _; omega⟩ ⟨l.val % 64, by omega⟩) := by
  have e : V₃ m d (Proc.devRef .tc main_v9) = (extractStridedSlice S640x128 ![0, 0] (gathered (ciM m d) (cxM m d)) slices_S768x128_S640x128_0_0 : S640x128.Idx → F .f32) := by
    unfold V₃
    simp only [opsA]
    after_results
    rw [V₂_o]
  rw [e]
  have e1 : (ciM m d (ix1 ⟨n.val, by omega⟩) : BitVec 32).toNat = (tok (idsM m d) n).toNat / 2 := (ciM_apply m d h ⟨n.val, by omega⟩).trans (dif_pos n.isLt)
  have hlt : (tok (idsM m d) n).toNat < 100000 := h _
  have hrow : (rowOf (ciM m d (ix1 ⟨n.val, by omega⟩))) = ⟨(tok (idsM m d) n).toNat / 2, by omega⟩ := by
    unfold rowOf
    rw [dif_pos (by rw [e1]; omega)]
    exact Fin.ext e1
  have e2 := cxM_apply m d (rowOf (ciM m d (ix1 ⟨n.val, by omega⟩))) l
  refine Eq.trans ?_ (e2.trans ?_)
  · pointwise [gathered]
    refine congrArg (cxM m d) (funext fun a => ?_)
    match a with
    | 0 =>
      refine congrArg (fun v => rowOf (ciM m d v)) (funext fun b => ?_)
      match b with
      | 0 => rfl
    | 1 => rfl
  · refine congrArg (tabM m d) (congrArg (fun r => ix2 r (⟨l.val % 64, by omega⟩ : Fin 64)) (Fin.ext ?_))
    show 2 * (rowOf (ciM m d (ix1 ⟨n.val, by omega⟩))).val + l.val / 64 = 2 * ((tok (idsM m d) n).toNat / 2) + l.val / 64
    rw [hrow]

/-- Which half of its pair token row `n` is. -/
theorem v4_apply (d : Dev nD) (h : InVocab (idsM m d)) (n : Fin 640) :
    ((V₃ m d (Proc.devRef .tc main_v4) : S640x1.Idx → BitVec 32) (ix2 n 0)).toNat = (tok (idsM m d) n).toNat % 2 := by
  have e : V₃ m d (Proc.devRef .tc main_v4) = V₁ m d (Proc.devRef .tc main_v4) := by
    unfold V₃
    simp only [opsA]
    after_results
    exact (V₂_rest m d _ (by decide)).symm
  rw [e, v4_eq, ← odd_apply _ h n]
  refine congrArg BitVec.toNat (shapeCast_apply _ _ _ _ ?_)
  rw [Shape.rowMajor_val_two, Shape.rowMajor_val_one]
  show n.val = n.val * 1 + 0
  omega

/-- An argument at the recurrence. -/
theorem V₃_early (d : Dev nD) {b : Ref sig .tc} (h : Early (F := F) b) (hA : ∀ V : Valuation τ sig (Elt F), after opsA V (Proc.devRef .tc b) = V (Proc.devRef .tc b))
    (hc : (Proc.devRef .tc b : DevRef τ sig) ∉ callRefs) : V₃ m d (Proc.devRef .tc b) = m ((d.tc : Thread nD τ).loc b) := by
  unfold V₃
  rw [hA, ← V₂_rest m d _ hc, V₁_early m d h]

end Cert.Proof.Lookup

end
-- ==== Proof.Args.lean ====
/-
  What the whole program leaves alone: the seven arguments, and the operands the vocabulary passes share.
-/
module

public import proofs.«01_k».proof.Proof.Ids

@[expose] public section

noncomputable section

namespace Cert.Proof.Lookup

open Cert.KernelIdeal Cert.KernelIdeal.Gen

open Idealize.ShloMosaic
open Idealize.ShloMosaic.Pipeline (RDat arrRef pin)
open Idealize.ShloMosaic.TcCoe
open Idealize.ShloMosaic.StableHlo
open Idealize.SL.Sem

variable {F : FTy → Type} [FloatOps F] [Named F]

section Keep

/-- The recurrence's arrays. -/
abbrev gruArrs : List (Ref sig .tc) := [main_v9, main_v4, main_arg2, main_arg3, main_arg4, main_v10]
/-- Every array that the gru call works on is in the list. -/
theorem gruArrs_mem (w : Fin (pin (pcfgs (F := F)) adm 0).W) : arrRef (pin (pcfgs (F := F)) adm 0).spec w ∈ gruArrs :=
  match w with
  | ⟨0, _⟩ => show main_v9 ∈ gruArrs by decide
  | ⟨1, _⟩ => show main_v4 ∈ gruArrs by decide
  | ⟨2, _⟩ => show main_arg2 ∈ gruArrs by decide
  | ⟨3, _⟩ => show main_arg3 ∈ gruArrs by decide
  | ⟨4, _⟩ => show main_arg4 ∈ gruArrs by decide
  | ⟨5, _⟩ => show main_v10 ∈ gruArrs by decide

/-- The first pass's arrays. -/
abbrev statsArrs : List (Ref sig .tc) := [main_v11, main_arg5, main_v12, main_v13]
/-- Every array that the stats call works on is in the list. -/
theorem statsArrs_mem (w : Fin (pin (pcfgs (F := F)) adm 1).W) : arrRef (pin (pcfgs (F := F)) adm 1).spec w ∈ statsArrs :=
  match w with
  | ⟨0, _⟩ => show main_v11 ∈ statsArrs by decide
  | ⟨1, _⟩ => show main_arg5 ∈ statsArrs by decide
  | ⟨2, _⟩ => show main_v12 ∈ statsArrs by decide
  | ⟨3, _⟩ => show main_v13 ∈ statsArrs by decide

/-- The second pass's arrays. -/
abbrev outArrs : List (Ref sig .tc) := [main_v11, main_arg5, main_v12, main_v13, main_v14]
/-- Every array that the out call works on is in the list. -/
theorem outArrs_mem (w : Fin (pin (pcfgs (F := F)) adm 2).W) : arrRef (pin (pcfgs (F := F)) adm 2).spec w ∈ outArrs :=
  match w with
  | ⟨0, _⟩ => show main_v11 ∈ outArrs by decide
  | ⟨1, _⟩ => show main_arg5 ∈ outArrs by decide
  | ⟨2, _⟩ => show main_v12 ∈ outArrs by decide
  | ⟨3, _⟩ => show main_v13 ∈ outArrs by decide
  | ⟨4, _⟩ => show main_v14 ∈ outArrs by decide

variable (V : Valuation τ sig (Elt F)) (c : Dev nD) {V' : Valuation τ sig (Elt F)}

/-- The recurrence leaves its three weight arrays as they were. -/
theorem gru_keep2 (h : Left V (gruDat V) c V') : V' (Proc.devRef .tc main_arg2) = V (Proc.devRef .tc main_arg2) :=
  cast (congrFun ((gruDat V c).ArrAt_in 2 rfl _) _) (h.1 2)
/-- The gru call hands on what its operand 3 held. -/
theorem gru_keep3 (h : Left V (gruDat V) c V') : V' (Proc.devRef .tc main_arg3) = V (Proc.devRef .tc main_arg3) :=
  cast (congrFun ((gruDat V c).ArrAt_in 3 rfl _) _) (h.1 3)
/-- The gru call hands on what its operand 4 held. -/
theorem gru_keep4 (h : Left V (gruDat V) c V') : V' (Proc.devRef .tc main_arg4) = V (Proc.devRef .tc main_arg4) :=
  cast (congrFun ((gruDat V c).ArrAt_in 4 rfl _) _) (h.1 4)

/-- A buffer that is none of the recurrence's arrays is left as it was. -/
theorem gru_keep (h : Left V (gruDat V) c V') {b : Ref sig .tc} (hb : b ∉ gruArrs) :
    V' (Proc.devRef .tc b) = V (Proc.devRef .tc b) := h.2 _ fun w => devRef_ne_of_ne fun e => hb (e ▸ gruArrs_mem w)

/-- The first pass leaves its operands as they were. -/
theorem stats_keep0 (h : Left V (statsDat V) c V') : V' (Proc.devRef .tc main_v11) = V (Proc.devRef .tc main_v11) :=
  cast (congrFun ((statsDat V c).ArrAt_in 0 rfl _) _) (h.1 0)
/-- The stats call hands on what its operand 1 held. -/
theorem stats_keep1 (h : Left V (statsDat V) c V') : V' (Proc.devRef .tc main_arg5) = V (Proc.devRef .tc main_arg5) :=
  cast (congrFun ((statsDat V c).ArrAt_in 1 rfl _) _) (h.1 1)
/-- The stats call hands on what its operand 2 held. -/
theorem stats_keep2 (h : Left V (statsDat V) c V') : V' (Proc.devRef .tc main_v12) = V (Proc.devRef .tc main_v12) :=
  cast (congrFun ((statsDat V c).ArrAt_in 2 rfl _) _) (h.1 2)

/-- A buffer that is none of the first pass's arrays is left as it was. -/
theorem stats_keep (h : Left V (statsDat V) c V') {b : Ref sig .tc} (hb : b ∉ statsArrs) :
    V' (Proc.devRef .tc b) = V (Proc.devRef .tc b) := h.2 _ fun w => devRef_ne_of_ne fun e => hb (e ▸ statsArrs_mem w)

/-- The second pass leaves the dense weight as it was. -/
theorem out_keep1 (h : Left V (outDat V) c V') : V' (Proc.devRef .tc main_arg5) = V (Proc.devRef .tc main_arg5) :=
  cast (congrFun ((outDat V c).ArrAt_in 1 rfl _) _) (h.1 1)

/-- A buffer that is none of the second pass's arrays is left as it was. -/
theorem out_keep (h : Left V (outDat V) c V') {b : Ref sig .tc} (hb : b ∉ outArrs) :
    V' (Proc.devRef .tc b) = V (Proc.devRef .tc b) := h.2 _ fun w => devRef_ne_of_ne fun e => hb (e ▸ outArrs_mem w)

/-- The host's operations between and after the pipelines write none of the arguments. -/
theorem opsB_keep {b : Ref sig .tc} (h1 : b ≠ main_v11) (h2 : b ≠ main_v12) : after opsB V (Proc.devRef .tc b) = V (Proc.devRef .tc b) := by
  refine after_of_forall_not_mem opsB V fun op hop => ?_
  fin_cases hop
  · exact fun h => devRef_ne_of_ne h1 (Finset.mem_singleton.mp h)
  · exact fun h => devRef_ne_of_ne h2 (Finset.mem_singleton.mp h)
/-- These host lines leave every array that they do not write. -/
theorem opsC_keep {b : Ref sig .tc} (h1 : b ≠ main_v15) : after opsC V (Proc.devRef .tc b) = V (Proc.devRef .tc b) := by
  refine after_of_forall_not_mem opsC V fun op hop => ?_
  fin_cases hop
  exact fun h => devRef_ne_of_ne h1 (Finset.mem_singleton.mp h)

/-- The states flattened: row `n` is batch row `n / 20`, step `n % 20`. -/
theorem opsB_v11 : after opsB V (Proc.devRef .tc main_v11) = (shapeCast S640x128 (V (Proc.devRef .tc main_v10) : S32x20x128.Idx → F .f32) shapeCasts_S32x20x128_S640x128 : S640x128.Idx → F .f32) := by
  simp only [opsB]
  after_results <;> rfl
/-- What these host lines leave in v12. -/
theorem opsB_v12 : after opsB V (Proc.devRef .tc main_v12) = (shapeCast S1x100000 (V (Proc.devRef .tc main_arg6) : S100000.Idx → F .f32) shapeCasts_S100000_S1x100000 : S1x100000.Idx → F .f32) := by
  simp only [opsB]
  after_results <;> rfl
/-- What these host lines leave in v15. -/
theorem opsC_v15 : after opsC V (Proc.devRef .tc main_v15) = (shapeCast S32x20x100000 (V (Proc.devRef .tc main_v14) : S640x100000.Idx → F .f32) shapeCasts_S640x100000_S32x20x100000 : S32x20x100000.Idx → F .f32) := by
  simp only [opsC]
  after_results <;> rfl

end Keep

variable (m : (ℓ : Loc nD τ sig) → Buf (Elt F) ℓ) (d : Dev nD)

/-- The arguments where the recurrence is entered. -/
theorem V₃_arg0 : V₃ m d (Proc.devRef .tc main_arg0) = m ((d.tc : Thread nD τ).loc main_arg0) := V₃_early m d early0 (fun V => by simp only [opsA]; after_results) (by decide)
/-- Argument 1 reaches the GRU call as it was. -/
theorem V₃_arg1 : V₃ m d (Proc.devRef .tc main_arg1) = m ((d.tc : Thread nD τ).loc main_arg1) := V₃_early m d early1 (fun V => by simp only [opsA]; after_results) (by decide)
/-- Argument 2 is in the arrays that the GRU call starts from as it was. -/
theorem V₃_w2 : V₃ m d (Proc.devRef .tc main_arg2) = m ((d.tc : Thread nD τ).loc main_arg2) := V₃_early m d early2 (fun V => by simp only [opsA]; after_results) (by decide)
/-- Argument 3 is in the arrays that the GRU call starts from as it was. -/
theorem V₃_w3 : V₃ m d (Proc.devRef .tc main_arg3) = m ((d.tc : Thread nD τ).loc main_arg3) := V₃_early m d early3 (fun V => by simp only [opsA]; after_results) (by decide)
/-- Argument 4 is in the arrays that the GRU call starts from as it was. -/
theorem V₃_w4 : V₃ m d (Proc.devRef .tc main_arg4) = m ((d.tc : Thread nD τ).loc main_arg4) := V₃_early m d early4 (fun V => by simp only [opsA]; after_results) (by decide)
/-- Argument 5 reaches the GRU call as it was. -/
theorem V₃_arg5 : V₃ m d (Proc.devRef .tc main_arg5) = m ((d.tc : Thread nD τ).loc main_arg5) := V₃_early m d early5 (fun V => by simp only [opsA]; after_results) (by decide)
/-- Argument 6 reaches the GRU call as it was. -/
theorem V₃_arg6 : V₃ m d (Proc.devRef .tc main_arg6) = m ((d.tc : Thread nD τ).loc main_arg6) := V₃_early m d early6 (fun V => by simp only [opsA]; after_results) (by decide)

variable {m d} {V : Valuation τ sig (Elt F)}

/-- The arguments at the end are the launch's. -/
theorem end_arg0 (h : EndRel m d V) : V (Proc.devRef .tc main_arg0) = m ((d.tc : Thread nD τ).loc main_arg0) := by
  obtain ⟨V₄, V₆, V₇, h4, h6, h7, rfl⟩ := h
  rw [opsC_keep _ (by decide), out_keep _ d h7 (by decide), stats_keep _ d h6 (by decide), opsB_keep _ (by decide) (by decide), gru_keep _ d h4 (by decide), V₃_arg0]
/-- Argument 1 ends as it began. -/
theorem end_arg1 (h : EndRel m d V) : V (Proc.devRef .tc main_arg1) = m ((d.tc : Thread nD τ).loc main_arg1) := by
  obtain ⟨V₄, V₆, V₇, h4, h6, h7, rfl⟩ := h
  rw [opsC_keep _ (by decide), out_keep _ d h7 (by decide), stats_keep _ d h6 (by decide), opsB_keep _ (by decide) (by decide), gru_keep _ d h4 (by decide), V₃_arg1]
/-- Argument 2 ends as it began. -/
theorem end_arg2 (h : EndRel m d V) : V (Proc.devRef .tc main_arg2) = m ((d.tc : Thread nD τ).loc main_arg2) := by
  obtain ⟨V₄, V₆, V₇, h4, h6, h7, rfl⟩ := h
  rw [opsC_keep _ (by decide), out_keep _ d h7 (by decide), stats_keep _ d h6 (by decide), opsB_keep _ (by decide) (by decide), gru_keep2 _ d h4, V₃_w2]
/-- Argument 3 ends as it began. -/
theorem end_arg3 (h : EndRel m d V) : V (Proc.devRef .tc main_arg3) = m ((d.tc : Thread nD τ).loc main_arg3) := by
  obtain ⟨V₄, V₆, V₇, h4, h6, h7, rfl⟩ := h
  rw [opsC_keep _ (by decide), out_keep _ d h7 (by decide), stats_keep _ d h6 (by decide), opsB_keep _ (by decide) (by decide), gru_keep3 _ d h4, V₃_w3]
/-- Argument 4 ends as it began. -/
theorem end_arg4 (h : EndRel m d V) : V (Proc.devRef .tc main_arg4) = m ((d.tc : Thread nD τ).loc main_arg4) := by
  obtain ⟨V₄, V₆, V₇, h4, h6, h7, rfl⟩ := h
  rw [opsC_keep _ (by decide), out_keep _ d h7 (by decide), stats_keep _ d h6 (by decide), opsB_keep _ (by decide) (by decide), gru_keep4 _ d h4, V₃_w4]
/-- Argument 5 ends as it began. -/
theorem end_arg5 (h : EndRel m d V) : V (Proc.devRef .tc main_arg5) = m ((d.tc : Thread nD τ).loc main_arg5) := by
  obtain ⟨V₄, V₆, V₇, h4, h6, h7, rfl⟩ := h
  rw [opsC_keep _ (by decide), out_keep1 _ d h7, stats_keep1 _ d h6, opsB_keep _ (by decide) (by decide), gru_keep _ d h4 (by decide), V₃_arg5]
/-- Argument 6 ends as it began. -/
theorem end_arg6 (h : EndRel m d V) : V (Proc.devRef .tc main_arg6) = m ((d.tc : Thread nD τ).loc main_arg6) := by
  obtain ⟨V₄, V₆, V₇, h4, h6, h7, rfl⟩ := h
  rw [opsC_keep _ (by decide), out_keep _ d h7 (by decide), stats_keep _ d h6 (by decide), opsB_keep _ (by decide) (by decide), gru_keep _ d h4 (by decide), V₃_arg6]

end Cert.Proof.Lookup

end
-- ==== Proof.Blocks.lean ====
/-
  What the pipelines' staging buffers hold, read at an index: a block's entry is the array's at the block's offset,
  wherever that lies inside the array.
-/
module

public import proofs.«01_k».proof.Proof.Launch
public import Idealize.ShloMosaic.Lib.Pointwise
public import Idealize.ShloMosaic.Lib.Pipeline.ValueKit
public import Idealize.ShloMosaic.Lib.Pipeline.ArrRel

@[expose] public section

noncomputable section

namespace Cert.Proof.Lookup

open Cert.KernelIdeal Cert.KernelIdeal.Gen

open Idealize.ShloMosaic
open Idealize.ShloMosaic.Pipeline (RDat arrRef pin)
open Idealize.ShloMosaic.TcCoe
open Idealize.ShloMosaic.StableHlo
open Idealize.SL.Sem

variable {F : FTy → Type} [FloatOps F] [Named F]
variable (V : Valuation τ sig (Elt F)) (c : Dev nD)

/-- The block that operand 1 of call 2 is at. -/
theorem idx2_1 : ∀ (t : Fin grid2.N), cc2_transform_1 (grid2.coords t) 0 = 0 ∧ cc2_transform_1 (grid2.coords t) 1 = t.val := by decide +kernel
/-- The block that operand 2 of call 2 is at. -/
theorem idx2_2 : ∀ (t : Fin grid2.N), cc2_transform_2 (grid2.coords t) 0 = 0 ∧ cc2_transform_2 (grid2.coords t) 1 = t.val := by decide +kernel
/-- The block that operand 1 of call 3 is at. -/
theorem idx3_1 : ∀ (t : Fin grid3.N), cc3_transform_1 (grid3.coords t) 0 = 0 ∧ cc3_transform_1 (grid3.coords t) 1 = t.val := by decide +kernel
/-- The block that operand 2 of call 3 is at. -/
theorem idx3_2 : ∀ (t : Fin grid3.N), cc3_transform_2 (grid3.coords t) 0 = 0 ∧ cc3_transform_2 (grid3.coords t) 1 = t.val := by decide +kernel
/-- The block that operand 4 of call 3 is at. -/
theorem idx3_4 : ∀ (t : Fin grid3.N), cc3_transform_4 (grid3.coords t) 0 = 0 ∧ cc3_transform_4 (grid3.coords t) 1 = t.val := by decide +kernel

/-- A block entry that lies inside the array is moved. -/
theorem moved_of {G : Pipeline.Grid} (w : Pipeline.Window sig G) (hk : w.kind = .blocked) (i : G.Coords) (j : w.block.Idx)
    (h : ∀ a, w.indexMap i a * w.size a + (j a).val < w.shape.size a) : w.moved i j = true := by
  rw [w.moved_iff]
  intro a
  have hc := w.hclip i a
  rw [hk] at hc
  show (j a).val < (w.clip i a).extent (w.size a)
  cases hcl : w.clip i a with
  | none => exact (j a).isLt
  | some n =>
    rw [hcl] at hc
    have h1 := h a
    have h2 : w.indexMap i a * w.size a + n = w.shape.size a := hc.2.2
    show (j a).val < n
    omega

/-- The block the fetch at `t` leaves, at an entry inside the array. -/
theorem fill_read {G : Pipeline.Grid} (w : Pipeline.Window sig G) (hk : w.kind = .blocked) (t : Fin G.N) (d : w.block.Idx → Elt F w.elt)
    (f : w.arr.view.ty.Contents (Elt F)) (j : w.block.Idx) (i : w.shape.Idx) (h : ∀ a, (i a).val = w.index t a * w.size a + (j a).val) :
    w.fill (G.coords t) d ((w.blk t).view.read (Elt F) f) j = w.arr.view.read (Elt F) f i := by
  have hm := moved_of w hk (G.coords t) j fun a => (h a) ▸ (i a).isLt
  unfold Pipeline.Window.fill
  rw [dif_pos hm]
  rw [View.read_apply, View.read_apply]
  have he : (w.blk t).view.emb (fun a => ⟨(j a).val, (w.moved_iff _ j).mp hm a⟩) = w.arr.view.emb i := by
    show w.arr.view.emb ((w.rect t).emb _) = _
    congr 1
    funext a
    apply Fin.ext
    rw [Rect.emb_apply, h a]
    show w.kind.off (w.index t a) (w.size a) + 1 * (j a).val = _
    rw [hk]
    show w.index t a * w.size a + 1 * (j a).val = _
    omega
  rw [he]

/-- What operand 0 hands to the body: the array at the block’s place. -/
theorem stFt0 (t : Fin cfg2.N) (d) (n : Fin 640) (k : Fin 128) :
    (stFt V c 0 t d : S640x128.Idx → F .f32) (ix2 n k) = (V (Proc.devRef .tc main_v11) : S640x128.Idx → F .f32) (ix2 n k) :=
  fill_read (cfg2.win 0) rfl t d (V (Proc.devRef .tc main_v11)) (ix2 n k) (ix2 n k) fun a => by
    match a with
    | 0 => exact (Nat.zero_add _).symm.trans (congrArg (· + n.val) (Nat.zero_mul _).symm)
    | 1 => exact (Nat.zero_add _).symm.trans (congrArg (· + k.val) (Nat.zero_mul _).symm)
/-- What operand 1 hands to the body: the array at the block’s place. -/
theorem stFt1 (t : Fin cfg2.N) (d) (k : Fin 128) (j : Fin 2048) (h : 2048 * t.val + j.val < 100000) :
    (stFt V c 1 t d : S128x2048.Idx → F .f32) (ix2 k j) = (V (Proc.devRef .tc main_arg5) : S128x100000.Idx → F .f32) (ix2 k ⟨2048 * t.val + j.val, h⟩) :=
  fill_read (cfg2.win 1) rfl t d (V (Proc.devRef .tc main_arg5)) (ix2 k j) (ix2 k ⟨2048 * t.val + j.val, h⟩) fun a => by
    match a with
    | 0 =>
      show k.val = cc2_transform_1 (grid2.coords t) 0 * 128 + k.val
      rw [(idx2_1 t).1]; omega
    | 1 =>
      show 2048 * t.val + j.val = cc2_transform_1 (grid2.coords t) 1 * 2048 + j.val
      rw [(idx2_1 t).2]; omega
/-- What operand 2 hands to the body: the array at the block’s place. -/
theorem stFt2 (t : Fin cfg2.N) (d) (j : Fin 2048) (h : 2048 * t.val + j.val < 100000) :
    (stFt V c 2 t d : S1x2048.Idx → F .f32) (ix2 0 j) = (V (Proc.devRef .tc main_v12) : S1x100000.Idx → F .f32) (ix2 0 ⟨2048 * t.val + j.val, h⟩) :=
  fill_read (cfg2.win 2) rfl t d (V (Proc.devRef .tc main_v12)) (ix2 0 j) (ix2 0 ⟨2048 * t.val + j.val, h⟩) fun a => by
    match a with
    | 0 =>
      show 0 = cc2_transform_2 (grid2.coords t) 0 * 1 + 0
      rw [(idx2_2 t).1]
    | 1 =>
      show 2048 * t.val + j.val = cc2_transform_2 (grid2.coords t) 1 * 2048 + j.val
      rw [(idx2_2 t).2]; omega

/-- What operand 0 hands to the body: the array at the block’s place. -/
theorem outFt0 (t : Fin cfg3.N) (d) (n : Fin 640) (k : Fin 128) :
    (outFt V c 0 t d : S640x128.Idx → F .f32) (ix2 n k) = (V (Proc.devRef .tc main_v11) : S640x128.Idx → F .f32) (ix2 n k) :=
  fill_read (cfg3.win 0) rfl t d (V (Proc.devRef .tc main_v11)) (ix2 n k) (ix2 n k) fun a => by
    match a with
    | 0 => exact (Nat.zero_add _).symm.trans (congrArg (· + n.val) (Nat.zero_mul _).symm)
    | 1 => exact (Nat.zero_add _).symm.trans (congrArg (· + k.val) (Nat.zero_mul _).symm)
/-- What operand 1 hands to the body: the array at the block’s place. -/
theorem outFt1 (t : Fin cfg3.N) (d) (k : Fin 128) (j : Fin 2048) (h : 2048 * t.val + j.val < 100000) :
    (outFt V c 1 t d : S128x2048.Idx → F .f32) (ix2 k j) = (V (Proc.devRef .tc main_arg5) : S128x100000.Idx → F .f32) (ix2 k ⟨2048 * t.val + j.val, h⟩) :=
  fill_read (cfg3.win 1) rfl t d (V (Proc.devRef .tc main_arg5)) (ix2 k j) (ix2 k ⟨2048 * t.val + j.val, h⟩) fun a => by
    match a with
    | 0 =>
      show k.val = cc3_transform_1 (grid3.coords t) 0 * 128 + k.val
      rw [(idx3_1 t).1]; omega
    | 1 =>
      show 2048 * t.val + j.val = cc3_transform_1 (grid3.coords t) 1 * 2048 + j.val
      rw [(idx3_1 t).2]; omega
/-- What operand 2 hands to the body: the array at the block’s place. -/
theorem outFt2 (t : Fin cfg3.N) (d) (j : Fin 2048) (h : 2048 * t.val + j.val < 100000) :
    (outFt V c 2 t d : S1x2048.Idx → F .f32) (ix2 0 j) = (V (Proc.devRef .tc main_v12) : S1x100000.Idx → F .f32) (ix2 0 ⟨2048 * t.val + j.val, h⟩) :=
  fill_read (cfg3.win 2) rfl t d (V (Proc.devRef .tc main_v12)) (ix2 0 j) (ix2 0 ⟨2048 * t.val + j.val, h⟩) fun a => by
    match a with
    | 0 =>
      show 0 = cc3_transform_2 (grid3.coords t) 0 * 1 + 0
      rw [(idx3_2 t).1]
    | 1 =>
      show 2048 * t.val + j.val = cc3_transform_2 (grid3.coords t) 1 * 2048 + j.val
      rw [(idx3_2 t).2]; omega
/-- What operand 3 hands to the body: the array at the block’s place. -/
theorem outFt3 (t : Fin cfg3.N) (d) (n : Fin 640) :
    (outFt V c 3 t d : S640x1.Idx → F .f32) (ix2 n 0) = (V (Proc.devRef .tc main_v13) : S640x1.Idx → F .f32) (ix2 n 0) :=
  fill_read (cfg3.win 3) rfl t d (V (Proc.devRef .tc main_v13)) (ix2 n 0) (ix2 n 0) fun a => by
    match a with
    | 0 => exact (Nat.zero_add _).symm.trans (congrArg (· + n.val) (Nat.zero_mul _).symm)
    | 1 => rfl

/-- A one-point pipeline's window over the whole array: the fetched block is the array. -/
theorem gruFt0 (t : Fin cfg1.N) (d) : gruFt V c 0 t d = V (Proc.devRef .tc main_v9) := funext fun j =>
  fill_read (cfg1.win 0) rfl t d (V (Proc.devRef .tc main_v9)) j j fun a => by
    match a with
    | 0 => exact (Nat.zero_add _).symm.trans (congrArg (· + (j 0).val) (Nat.zero_mul _).symm)
    | 1 => exact (Nat.zero_add _).symm.trans (congrArg (· + (j 1).val) (Nat.zero_mul _).symm)
/-- What operand 1 hands to the body: the array at the block’s place. -/
theorem gruFt1 (t : Fin cfg1.N) (d) : gruFt V c 1 t d = V (Proc.devRef .tc main_v4) := funext fun j =>
  fill_read (cfg1.win 1) rfl t d (V (Proc.devRef .tc main_v4)) j j fun a => by
    match a with
    | 0 => exact (Nat.zero_add _).symm.trans (congrArg (· + (j 0).val) (Nat.zero_mul _).symm)
    | 1 => exact (Nat.zero_add _).symm.trans (congrArg (· + (j 1).val) (Nat.zero_mul _).symm)
/-- What operand 2 hands to the body: the array at the block’s place. -/
theorem gruFt2 (t : Fin cfg1.N) (d) : gruFt V c 2 t d = V (Proc.devRef .tc main_arg2) := funext fun j =>
  fill_read (cfg1.win 2) rfl t d (V (Proc.devRef .tc main_arg2)) j j fun a => by
    match a with
    | 0 => exact (Nat.zero_add _).symm.trans (congrArg (· + (j 0).val) (Nat.zero_mul _).symm)
    | 1 => exact (Nat.zero_add _).symm.trans (congrArg (· + (j 1).val) (Nat.zero_mul _).symm)
/-- What operand 3 hands to the body: the array at the block’s place. -/
theorem gruFt3 (t : Fin cfg1.N) (d) : gruFt V c 3 t d = V (Proc.devRef .tc main_arg3) := funext fun j =>
  fill_read (cfg1.win 3) rfl t d (V (Proc.devRef .tc main_arg3)) j j fun a => by
    match a with
    | 0 => exact (Nat.zero_add _).symm.trans (congrArg (· + (j 0).val) (Nat.zero_mul _).symm)
    | 1 => exact (Nat.zero_add _).symm.trans (congrArg (· + (j 1).val) (Nat.zero_mul _).symm)
/-- What operand 4 hands to the body: the array at the block’s place. -/
theorem gruFt4 (t : Fin cfg1.N) (d) : gruFt V c 4 t d = V (Proc.devRef .tc main_arg4) := funext fun j =>
  fill_read (cfg1.win 4) rfl t d (V (Proc.devRef .tc main_arg4)) j j fun a => by
    match a with
    | 0 => exact (Nat.zero_add _).symm.trans (congrArg (· + (j 0).val) (Nat.zero_mul _).symm)
    | 1 => exact (Nat.zero_add _).symm.trans (congrArg (· + (j 1).val) (Nat.zero_mul _).symm)

/-! ## The three pipelines' results -/

variable [∀ e, Nonempty (Elt F e)] {V c}

/-- Operand 5 of call 1 is one whole block. -/
theorem whole1_5 : (cfg1.win 5).WholeAt (⟨0, by decide⟩ : Fin grid1.N) := by decide +kernel
/-- Operand 3 of call 2 is one whole block. -/
theorem whole2_3 : (cfg2.win 3).WholeAt (⟨48, by decide⟩ : Fin grid2.N) := by decide +kernel
/-- The blocks of result 4 of call 3 cover it. -/
theorem covers3_4 : (cfg3.win 4).Covers := by decide +kernel

/-- The recurrence leaves every step's state. -/
theorem gru_left {V' : Valuation τ sig (Elt F)} (h : Left V (gruDat V) c V') :
    V' (Proc.devRef .tc main_v10) = gruOut (V (Proc.devRef .tc main_v9)) (V (Proc.devRef .tc main_v4)) (V (Proc.devRef .tc main_arg2))
      (V (Proc.devRef .tc main_arg3)) (V (Proc.devRef .tc main_arg4)) := by
  obtain ⟨X, ⟨Y, _, hX⟩, hA⟩ := (h.1 5).emb_eq_of_wholeAt (t₀ := (⟨0, by decide⟩ : Fin grid1.N)) whole1_5
  have hg : GruAt V c (⟨0, by decide⟩ : Fin grid1.N) X := hX
  obtain ⟨d0, d1, d2, d3, d4, e⟩ := hg
  rw [gruFt0, gruFt1, gruFt2, gruFt3, gruFt4] at e
  rw [← e]
  funext j
  exact hA j

/-- The first pass leaves what the last point left. -/
theorem stats_left {V' : Valuation τ sig (Elt F)} (h : Left V (statsDat V) c V') :
    LeftAt V c (⟨48, by decide⟩ : Fin grid2.N) (V' (Proc.devRef .tc main_v13)) := by
  obtain ⟨X, ⟨Y, _, hX⟩, hA⟩ := (h.1 3).emb_eq_of_wholeAt (t₀ := (⟨48, by decide⟩ : Fin grid2.N)) whole2_3
  have hg : LeftAt V c (⟨48, by decide⟩ : Fin grid2.N) X := hX.2 rfl
  have e : V' (Proc.devRef .tc main_v13) = X := funext fun j => hA j
  rw [e]
  exact hg

/-- The second pass leaves each block its point left. -/
theorem out_left {V' : Valuation τ sig (Elt F)} (h : Left V (outDat V) c V') (G : S640x100000.Idx → F .f32)
    (hG : ∀ (t : Fin cfg3.N) X, OutAt V c t X → ∀ (n : Fin 640) (j : Fin 2048) (hj : 2048 * t.val + j.val < 100000),
      (X : S640x2048.Idx → F .f32) (ix2 n j) = G (ix2 n ⟨2048 * t.val + j.val, hj⟩)) :
    V' (Proc.devRef .tc main_v14) = G := by
  obtain ⟨X, hX, hA⟩ := (h.1 4).exists_exact
  let D := (outDat V c).withAfter (Function.update (fun _ _ _ => Classical.arbitrary _) 4 X)
  refine (hA (Function.update (fun _ _ _ => Classical.arbitrary _) 4 X) fun u _ _ => by rw [Function.update_self]).trans ?_
  refine D.arrAt_eq_of_covers 4 G covers3_4 (fun t hf y => ?_) (Memref.isWhole_whole _)
  have hD : D.after 4 t = X t := by
    show Function.update (fun _ _ _ => Classical.arbitrary _) 4 X 4 t = X t
    rw [Function.update_self]
  rw [hD]
  obtain ⟨Y, _, hL⟩ := hX t t.isLt hf
  have hO : OutAt V c t (X t) := hL
  let e : S640x100000.Idx := ((cfg3.win 4).blk t).view.emb y
  let z : S640x2048.Idx := (cfg3.win 4).xinj (cfg3.grid.coords t) y
  have e0 : (e 0).val = (z 0).val := by
    show cc3_transform_4 (grid3.coords t) 0 * 640 + 1 * (z 0).val = (z 0).val
    rw [(idx3_4 t).1]; omega
  have e1 : (e 1).val = 2048 * t.val + (z 1).val := by
    show cc3_transform_4 (grid3.coords t) 1 * 2048 + 1 * (z 1).val = 2048 * t.val + (z 1).val
    rw [(idx3_4 t).2]; omega
  have hlt : 2048 * t.val + (z 1).val < 100000 := e1 ▸ (e 1).isLt
  have hz : z = ix2 (z 0) (z 1) := by funext a; match a with | 0 => rfl | 1 => rfl
  have he : e = ix2 (z 0) ⟨2048 * t.val + (z 1).val, hlt⟩ := by
    funext a; apply Fin.ext
    match a with
    | 0 => exact e0
    | 1 => exact e1
  show (X t : S640x2048.Idx → F .f32) z = G e
  rw [hz, he]
  exact hG t (X t) hO (z 0) (z 1) hlt

end Cert.Proof.Lookup

end
-- ==== Proof.Soft.lean ====
/-
  The running softmax over extended reals: a maximum and a sum kept tile by tile give the row's normaliser, whatever
  real the maximum is; and the two spellings of a probability agree.
-/
module

public import Idealize.ShloMosaic.PureOps.Ideal
public import Mathlib.Analysis.SpecialFunctions.Log.Basic

@[expose] public section

noncomputable section

namespace Cert.Proof.Soft

open Idealize.ShloMosaic
open scoped BigOperators

/-- The probability of column `c` in a row of `n` real logits. -/
def prob (n : ℕ) (r : ℕ → ℝ) (c : ℕ) : ℝ := Real.exp (r c) / ∑ k ∈ Finset.range n, Real.exp (r k)

/-- What the running pair is once the first `k` columns are in: nothing seen, or the sum of the exponentials shifted by
    the kept real. -/
def Run (r : ℕ → ℝ) (k : ℕ) (m s : EReal) : Prop :=
  (k = 0 ∧ m = ⊥ ∧ s = 0) ∨ ∃ M : ℝ, m = (M : EReal) ∧ s = ((∑ c ∈ Finset.range k, Real.exp (r c - M) : ℝ) : EReal)

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a real is the real exponential. -/
theorem exp_coe (x : ℝ) : Ideal.exp (x : EReal) = (Real.exp x : EReal) := rfl
/-- The exponential of minus infinity is zero. -/
theorem exp_bot : Ideal.exp ⊥ = 0 := rfl

/-- The greatest of a nonempty finite family below `⊤` with one member above `⊥` is real. -/
theorem fold_max_real {ι : Type} [Fintype ι] (f : ι → EReal) (ht : ∀ i, f i ≠ ⊤) (j : ι) (hj : f j ≠ ⊥) :
    ∃ M : ℝ, Finset.univ.fold max ⊥ f = (M : EReal) := by
  have hb : Finset.univ.fold max ⊥ f ≠ ⊥ := by
    intro h
    have : f j ≤ Finset.univ.fold max ⊥ f := (Finset.le_fold_max _).mpr (.inr ⟨j, Finset.mem_univ j, le_refl _⟩)
    rw [h] at this
    exact hj (le_bot_iff.mp this)
  have hT : Finset.univ.fold max ⊥ f < ⊤ :=
    (Finset.fold_max_lt ⊤).mpr ⟨bot_lt_top, fun i _ => lt_top_iff_ne_top.mpr (ht i)⟩
  exact ⟨_, (EReal.coe_toReal hT.ne hb).symm⟩

/-- Reshifting a sum of exponentials. -/
theorem shift (r : ℕ → ℝ) (t : Finset ℕ) (M M' : ℝ) :
    (∑ c ∈ t, Real.exp (r c - M)) * Real.exp (M - M') = ∑ c ∈ t, Real.exp (r c - M') := by
  rw [Finset.sum_mul]
  refine Finset.sum_congr rfl fun c _ => ?_
  rw [← Real.exp_add]
  congr 1
  ring

/-- The columns of a tile that exist: the sum over the tile's lanes of a term zero off the row is the sum over the range. -/
theorem tile_sum (w k n : ℕ) (g : ℕ → ℝ) (hk : k ≤ n) :
    ∑ j : Fin w, (if k + j.val < n then g (k + j.val) else 0) = ∑ c ∈ Finset.Ico k (min (k + w) n), g c := by
  rw [Finset.sum_fin_eq_sum_range]
  rw [Finset.sum_congr rfl (g := fun j => if k + j < n then g (k + j) else 0) (fun j hj => by
    rw [dif_pos (Finset.mem_range.mp hj)])]
  rw [← Finset.sum_filter, Finset.sum_Ico_eq_sum_range]
  refine Finset.sum_congr ?_ fun _ _ => rfl
  ext j
  simp only [Finset.mem_filter, Finset.mem_range]
  omega

/-- ONE TILE: the pair after the tile is right if the pair before it was. -/
theorem step (r : ℕ → ℝ) (w k n : ℕ) (hk : k < n) (hw : 0 < w) (m s : EReal) (h : Run r k m s) (l : Fin w → EReal)
    (hl : ∀ j, l j = if k + j.val < n then (r (k + j.val) : EReal) else ⊥) :
    Run r (min (k + w) n) (max m (Finset.univ.fold max ⊥ l))
      (s * Ideal.exp (m - max m (Finset.univ.fold max ⊥ l)) + ∑ j, Ideal.exp (l j - max m (Finset.univ.fold max ⊥ l))) := by
  have hlt : ∀ j, l j ≠ ⊤ := fun j => by rw [hl j]; split <;> simp
  obtain ⟨T, hT⟩ := fold_max_real l hlt ⟨0, hw⟩ (by rw [hl]; simp [hk])
  have hM : ∃ M' : ℝ, max m (Finset.univ.fold max ⊥ l) = (M' : EReal) := by
    rw [hT]
    rcases h with ⟨_, hm, _⟩ | ⟨M, hm, _⟩
    · exact ⟨T, by rw [hm]; simp⟩
    · exact ⟨max M T, by rw [hm]; exact (Monotone.map_max EReal.coe_strictMono.monotone).symm⟩
  obtain ⟨M', hM'⟩ := hM
  rw [hM']
  refine .inr ⟨M', rfl, ?_⟩
  have htile : ∑ j, Ideal.exp (l j - (M' : EReal)) = ((∑ c ∈ Finset.Ico k (min (k + w) n), Real.exp (r c - M') : ℝ) : EReal) := by
    rw [← tile_sum w k n (fun c => Real.exp (r c - M')) hk.le, coe_sum]
    refine Finset.sum_congr rfl fun j _ => ?_
    rw [hl j]
    split
    · rw [← EReal.coe_sub, exp_coe]
    · rw [EReal.bot_sub]
      rfl
  have hold : s * Ideal.exp (m - (M' : EReal)) = ((∑ c ∈ Finset.range k, Real.exp (r c - M') : ℝ) : EReal) := by
    rcases h with ⟨hk0, hm, hs⟩ | ⟨M, hm, hs⟩
    · rw [hs, hk0]; simp
    · rw [hs, hm, ← EReal.coe_sub, exp_coe, ← EReal.coe_mul, shift]
  rw [htile, hold, ← EReal.coe_add]
  congr 1
  rw [Finset.range_eq_Ico, Finset.range_eq_Ico, Finset.sum_Ico_consecutive _ (Nat.zero_le k) (by omega)]

/-- The sum of exponentials of a nonempty row is positive. -/
theorem sum_pos (r : ℕ → ℝ) (n : ℕ) (hn : 0 < n) (M : ℝ) : 0 < ∑ c ∈ Finset.range n, Real.exp (r c - M) :=
  Finset.sum_pos (fun _ _ => Real.exp_pos _) ⟨0, Finset.mem_range.mpr hn⟩

/-- The shifted ratio is the probability. -/
theorem ratio (r : ℕ → ℝ) (n c : ℕ) (M : ℝ) :
    Real.exp (r c - M) / ∑ k ∈ Finset.range n, Real.exp (r k - M) = prob n r c := by
  have e : ∀ k, Real.exp (r k - M) = Real.exp (r k) * Real.exp (-M) := fun k => by rw [sub_eq_add_neg, Real.exp_add]
  simp only [e]
  rw [← Finset.sum_mul, mul_div_mul_right _ _ (Real.exp_pos _).ne']
  rfl

/-- THE KERNEL'S PROBABILITY: the exponential of the logit less the normaliser. -/
theorem kernel_prob (r : ℕ → ℝ) (n c : ℕ) (hn : 0 < n) (m s : EReal) (h : Run r n m s) :
    Ideal.exp ((r c : EReal) - (m + Ideal.log s)) = (prob n r c : EReal) := by
  rcases h with ⟨h0, _⟩ | ⟨M, hm, hs⟩
  · omega
  have hp := sum_pos r n hn M
  have hlog : Ideal.log s = ((Real.log (∑ k ∈ Finset.range n, Real.exp (r k - M)) : ℝ) : EReal) := by
    rw [hs]
    show (if _ then _ else _) = _
    rw [if_neg (not_le.mpr hp)]
  rw [hlog, hm, ← EReal.coe_add, ← EReal.coe_sub, exp_coe]
  congr 1
  rw [← ratio r n c M, ← sub_sub, Real.exp_sub, Real.exp_log hp]

/-- THE REFERENCE'S PROBABILITY: the shifted exponential over the sum of the shifted exponentials. -/
theorem ref_prob (r : ℕ → ℝ) (n c : ℕ) (hn : 0 < n) (l : Fin n → EReal) (hl : ∀ j, l j = (r j.val : EReal)) (x : EReal) (hx : x = (r c : EReal)) :
    Ideal.div (Ideal.exp (x - max ⊥ (Finset.univ.fold max ⊥ l)))
      (0 + ∑ j, Ideal.exp (l j - max ⊥ (Finset.univ.fold max ⊥ l))) = (prob n r c : EReal) := by
  obtain ⟨M, hM⟩ := fold_max_real l (fun j => by rw [hl]; exact EReal.coe_ne_top _) ⟨0, hn⟩ (by rw [hl]; exact EReal.coe_ne_bot _)
  rw [hM, max_eq_right bot_le, zero_add, hx, ← EReal.coe_sub, exp_coe]
  have hs : ∑ j, Ideal.exp (l j - (M : EReal)) = ((∑ k ∈ Finset.range n, Real.exp (r k - M) : ℝ) : EReal) := by
    rw [Finset.sum_congr rfl (g := fun j : Fin n => ((Real.exp (r j.val - M) : ℝ) : EReal)) (fun j _ => by rw [hl, ← EReal.coe_sub, exp_coe]),
      ← coe_sum, Fin.sum_univ_eq_sum_range (fun k => Real.exp (r k - M))]
  have hp := sum_pos r n hn M
  rw [hs]
  unfold Ideal.div
  rw [if_neg (by rw [← EReal.coe_zero]; exact fun h => hp.ne' (EReal.coe_injective h)), ← EReal.coe_inv, ← EReal.coe_mul, ← ratio r n c M]
  rfl

/-- A value is a real. -/
def IsReal (x : EReal) : Prop := ∃ r : ℝ, x = (r : EReal)

/-- A sum of reals is real. -/
theorem IsReal.add {x y : EReal} : IsReal x → IsReal y → IsReal (x + y) := fun ⟨a, ha⟩ ⟨b, hb⟩ => ⟨a + b, by rw [ha, hb, EReal.coe_add]⟩
/-- A product of reals is real. -/
theorem IsReal.mul {x y : EReal} : IsReal x → IsReal y → IsReal (x * y) := fun ⟨a, ha⟩ ⟨b, hb⟩ => ⟨a * b, by rw [ha, hb, EReal.coe_mul]⟩
/-- A difference of reals is real. -/
theorem IsReal.sub {x y : EReal} : IsReal x → IsReal y → IsReal (x - y) := fun ⟨a, ha⟩ ⟨b, hb⟩ => ⟨a - b, by rw [ha, hb, EReal.coe_sub]⟩
/-- A finite sum of reals is real. -/
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩
/-- Zero is real. -/
theorem IsReal.zero : IsReal 0 := ⟨0, rfl⟩
/-- One is real. -/
theorem IsReal.one : IsReal 1 := ⟨1, rfl⟩
/-- A real is the real it is read as. -/
theorem IsReal.toReal {x : EReal} : IsReal x → x = (x.toReal : EReal) := fun ⟨a, ha⟩ => by rw [ha, EReal.toReal_coe]

/-- A hyperbolic tangent is real, of any extended real. -/
theorem IsReal.tanh (x : EReal) : IsReal (Ideal.tanh x) := by
  induction x using EReal.rec with
  | bot => exact ⟨-1, rfl⟩
  | coe r => exact ⟨Real.tanh r, rfl⟩
  | top => exact ⟨1, rfl⟩

/-- A logistic is real, of any extended real. -/
theorem IsReal.logistic (x : EReal) : IsReal (Ideal.div 1 (1 + Ideal.exp (-x))) := by
  induction x using EReal.rec with
  | bot =>
    refine ⟨0, ?_⟩
    have h : Ideal.exp (-⊥) = ⊤ := rfl
    rw [h, EReal.add_top_of_ne_bot (by exact EReal.coe_ne_bot 1)]
    simp [Ideal.div]
  | coe r =>
    have hp : (0 : ℝ) < 1 + Real.exp (-r) := by positivity
    refine ⟨(1 + Real.exp (-r))⁻¹, ?_⟩
    rw [← EReal.coe_neg, exp_coe, ← EReal.coe_one, ← EReal.coe_add]
    unfold Ideal.div
    rw [if_neg (by rw [← EReal.coe_zero]; exact fun h => hp.ne' (EReal.coe_injective h)), ← EReal.coe_inv, ← EReal.coe_mul, one_mul]
  | top =>
    refine ⟨1, ?_⟩
    have h : Ideal.exp (-⊤) = 0 := rfl
    rw [h]
    simp [Ideal.div]

end Cert.Proof.Soft

end
-- ==== Proof.Spec.lean ====
/-
  The problem's mathematics over extended reals, an entry at a time: the recurrence over the looked-up rows, the logits,
  the probabilities.
-/
module

public import proofs.«01_k».proof.Proof.Soft

@[expose] public section

noncomputable section

namespace Cert.Proof.Soft

open Idealize.ShloMosaic
open scoped BigOperators

/-- The inputs, an entry at a time: the looked-up row of step `t`, batch row `b`; the two weights and the two biases of the
    recurrence; the dense weight and bias. -/
structure Prm where
  X : Fin 20 → Fin 32 → Fin 64 → EReal
  Wk : Fin 64 → Fin 384 → EReal
  Wr : Fin 128 → Fin 384 → EReal
  bb : Fin 2 → Fin 384 → EReal
  Wd : Fin 128 → Fin 100000 → EReal
  bd : Fin 100000 → EReal

/-- The pattern of minus infinity denotes the least extended real. -/
theorem ofBits_bot : Ideal.ofBits .f32 0xFF800000#32 = (⊥ : EReal) := by
  simp [Ideal.ofBits, Ideal.ieee]

/-- The logistic function. -/
def sig (x : EReal) : EReal := Ideal.div 1 (1 + Ideal.exp (-x))

/-- One entry of the next state, from the input's projection, the state's projection and the state. -/
def cell (x g : Fin 384 → EReal) (h : Fin 128 → EReal) (k : Fin 128) : EReal :=
  sig (x ⟨k.val, by omega⟩ + g ⟨k.val, by omega⟩) * h k
    + (1 - sig (x ⟨k.val, by omega⟩ + g ⟨k.val, by omega⟩))
      * Ideal.tanh (x ⟨256 + k.val, by omega⟩ + sig (x ⟨128 + k.val, by omega⟩ + g ⟨128 + k.val, by omega⟩) * g ⟨256 + k.val, by omega⟩)

namespace Prm

variable (P : Prm)

/-- The input's projection. -/
def xp (t : Fin 20) (b : Fin 32) (j : Fin 384) : EReal := (∑ l : Fin 64, P.X t b l * P.Wk l j) + P.bb 0 j

/-- The state's projection. -/
def gp (h : Fin 128 → EReal) (j : Fin 384) : EReal := (∑ k : Fin 128, h k * P.Wr k j) + P.bb 1 j

/-- The state of batch row `b` after `t` steps. -/
def hid (b : Fin 32) : (t : ℕ) → t ≤ 20 → Fin 128 → EReal
  | 0, _ => fun _ => 0
  | t + 1, h => cell (P.xp ⟨t, h⟩ b) (P.gp (hid b t (Nat.le_of_succ_le h))) (hid b t (Nat.le_of_succ_le h))

/-- The logit of column `c` at batch row `b`, step `t`. -/
def logit (b : Fin 32) (t : Fin 20) (c : Fin 100000) : EReal :=
  (∑ k : Fin 128, P.hid b (t.val + 1) t.isLt k * P.Wd k c) + P.bd c

/-- The logits as reals. -/
def row (b : Fin 32) (t : Fin 20) (c : ℕ) : ℝ := if h : c < 100000 then (P.logit b t ⟨c, h⟩).toReal else 0

/-- The probability. -/
def out (b : Fin 32) (t : Fin 20) (c : Fin 100000) : EReal := (prob 100000 (P.row b t) c.val : ℝ)

/-- Every state is real. -/
theorem hid_real (b : Fin 32) : ∀ (t : ℕ) (h : t ≤ 20) (k : Fin 128), IsReal (P.hid b t h k)
  | 0, _, _ => IsReal.zero
  | t + 1, h, k => ((IsReal.logistic _).mul (hid_real b t _ k)).add ((IsReal.one.sub (IsReal.logistic _)).mul (IsReal.tanh _))

/-- With a real dense weight and bias, every logit is. -/
theorem logit_real (hW : ∀ k c, IsReal (P.Wd k c)) (hb : ∀ c, IsReal (P.bd c)) (b : Fin 32) (t : Fin 20) (c : Fin 100000) :
    P.logit b t c = (P.row b t c.val : EReal) := by
  have h : IsReal (P.logit b t c) := (IsReal.sum fun k => (P.hid_real b _ _ k).mul (hW k c)).add (hb c)
  unfold row
  rw [dif_pos c.isLt]
  exact h.toReal

end Prm

end Cert.Proof.Soft

end
-- ==== Proof.GruValue.lean ====
/-
  The recurrence over extended reals: the state after each step is the problem's.
-/
module

public import proofs.«01_k».proof.Proof.Ids
public import proofs.«01_k».proof.Proof.Blocks
public import proofs.«01_k».proof.Proof.Spec
public import Idealize.ShloMosaic.Lib.Pointwise

@[expose] public section

noncomputable section

namespace Cert.Proof.Lookup

open Cert.KernelIdeal Cert.KernelIdeal.Gen

open Idealize.ShloMosaic
open Idealize.ShloMosaic.TcCoe
open Cert.Proof.Soft

/-- The input projection at a token row and a column. -/
theorem xp_apply (b0 : Vec Ideal S1x384 .f32) (X0 : Vec Ideal S640x128 .f32) (X1 : Vec Ideal S640x1 .i32) (X2 : Vec Ideal S64x384 .f32) (n : Fin 640) (j : Fin 384) :
    (k1_pay2 (F := Ideal) b0 X0 X1 X2) (ix2 n j)
      = ((∑ l : Fin 64, Scalar.select (IntOp.cmpi .sgt (X1 (ix2 n 0)) 0#32) (X0 (ix2 n ⟨64 + l.val, by omega⟩)) (X0 (ix2 n ⟨l.val, by omega⟩)) * X2 (ix2 l j)) + b0 (ix2 0 j) : EReal) := by
  pointwise [k1_pay2]

/-- An entry of gOf. -/
theorem gOf_apply (b : FVec Ideal S1x384 .f32) (h : FVec Ideal S32x128 .f32) (W : FVec Ideal S128x384 .f32) (r : Fin 32) (j : Fin 384) :
    gOf b h W (ix2 r j) = ((∑ k : Fin 128, h (ix2 r k) * W (ix2 k j)) + b (ix2 0 j) : EReal) := by
  pointwise [gOf]

/-- An entry of stepOf. -/
theorem stepOf_apply (x : FVec Ideal S32x384 .f32) (b : FVec Ideal S1x384 .f32) (h : FVec Ideal S32x128 .f32) (W : FVec Ideal S128x384 .f32) (r : Fin 32) (k : Fin 128) :
    stepOf x b h W (ix2 r k) = cell (fun j => x (ix2 r j)) (fun j => gOf b h W (ix2 r j)) (fun j => h (ix2 r j)) k := by
  unfold stepOf zOf nOf rPre
  generalize gOf b h W = G
  pointwise
  rfl

/-- An entry of rowsOf. -/
theorem rowsOf_apply (xp : FVec Ideal S640x384 .f32) (t : Fin 20) (r : Fin 32) (j : Fin 384) :
    rowsOf xp t (ix2 r j) = xp (ix2 ⟨32 * t.val + r.val, by omega⟩ j) := by
  pointwise [rowsOf]

/-- The state after each step is the problem's. -/
theorem hidden_eq (P : Prm) (xp : FVec Ideal S640x384 .f32) (b : FVec Ideal S1x384 .f32) (W : FVec Ideal S128x384 .f32)
    (hx : ∀ (t : Fin 20) (r : Fin 32) (j : Fin 384), xp (ix2 ⟨32 * t.val + r.val, by omega⟩ j) = P.xp t r j)
    (hb : ∀ j : Fin 384, b (ix2 0 j) = P.bb 1 j) (hW : ∀ (k : Fin 128) (j : Fin 384), W (ix2 k j) = P.Wr k j) (r : Fin 32) :
    ∀ (t : ℕ) (ht : t < 20) (k : Fin 128), hidden xp b W t ht (ix2 r k) = P.hid r (t + 1) ht k
  | 0, ht, k => by
    have hz : ∀ j : Fin 128, (broadcast S32x128 (Scalar.ofBits .f32 0x00000000#32) : FVec Ideal S32x128 .f32) (ix2 r j) = (0 : EReal) := by
      intro j
      pointwise
    unfold hidden
    rw [stepOf_apply]
    show cell _ _ _ k = cell (P.xp ⟨0, ht⟩ r) (P.gp (fun _ => 0)) (fun _ => 0) k
    congr 1
    · funext j; rw [rowsOf_apply, hx]
    · funext j
      rw [gOf_apply, hb]
      show _ = (∑ k : Fin 128, (0 : EReal) * P.Wr k j) + P.bb 1 j
      congr 1
      exact Finset.sum_congr rfl fun k _ => by rw [hz, hW]
    · funext j; exact hz j
  | t + 1, ht, k => by
    have ih := hidden_eq P xp b W hx hb hW r t (Nat.lt_of_succ_lt ht)
    unfold hidden
    rw [stepOf_apply]
    show cell _ _ _ k = cell (P.xp ⟨t + 1, ht⟩ r) (P.gp (P.hid r (t + 1) (Nat.lt_of_succ_lt ht))) (P.hid r (t + 1) (Nat.lt_of_succ_lt ht)) k
    congr 1
    · funext j; rw [rowsOf_apply, hx]
    · funext j
      rw [gOf_apply, hb]
      show _ = (∑ k : Fin 128, P.hid r (t + 1) (Nat.lt_of_succ_lt ht) k * P.Wr k j) + P.bb 1 j
      congr 1
      exact Finset.sum_congr rfl fun k _ => by rw [ih, hW]
    · funext j; exact ih j

/-- Row 0 of the bias, as it is loaded. -/
theorem ld_row0 (X4 : Vec Ideal S2x384 .f32) (j : Fin 384) :
    (View.ld X4 (Rect.unit (s := S2x384) ![0, 0] S1x384.size inb_S2x384_S1x384_0_0) : S1x384.Idx → EReal) (ix2 0 j) = X4 (ix2 0 j) := by
  refine congrArg X4 (funext fun a => Fin.ext ?_)
  match a with
  | 0 => rfl
  | 1 => show 0 + 1 * j.val = j.val; omega
/-- Row 1 of the bias, as it is loaded. -/
theorem ld_row1 (X4 : Vec Ideal S2x384 .f32) (j : Fin 384) :
    (View.ld X4 (Rect.unit (s := S2x384) ![1, 0] S1x384.size inb_S2x384_S1x384_1_0) : S1x384.Idx → EReal) (ix2 0 j) = X4 (ix2 1 j) := by
  refine congrArg X4 (funext fun a => Fin.ext ?_)
  match a with
  | 0 => rfl
  | 1 => show 0 + 1 * j.val = j.val; omega

/-- The recurrence's result from operands that are the problem's inputs. -/
theorem gruOut_value (P : Prm) (X0 : Vec Ideal S640x128 .f32) (X1 : Vec Ideal S640x1 .i32) (X2 : Vec Ideal S64x384 .f32) (X3 : Vec Ideal S128x384 .f32) (X4 : Vec Ideal S2x384 .f32)
    (hX : ∀ (t : Fin 20) (r : Fin 32) (l : Fin 64) (n : Fin 640), n.val = 32 * t.val + r.val →
      Scalar.select (IntOp.cmpi .sgt (X1 (ix2 n 0)) 0#32) (X0 (ix2 n ⟨64 + l.val, by omega⟩)) (X0 (ix2 n ⟨l.val, by omega⟩)) = P.X t r l)
    (h2 : ∀ (l : Fin 64) (j : Fin 384), X2 (ix2 l j) = P.Wk l j) (h3 : ∀ (k : Fin 128) (j : Fin 384), X3 (ix2 k j) = P.Wr k j)
    (h4 : ∀ (i : Fin 2) (j : Fin 384), X4 (ix2 i j) = P.bb i j) (r : Fin 32) (t : Fin 20) (k : Fin 128) :
    gruOut X0 X1 X2 X3 X4 (ix3 r t k) = P.hid r (t.val + 1) t.isLt k := by
  refine hidden_eq P _ _ _ (fun t r j => ?_) (fun j => ?_) h3 r t.val t.isLt k
  · rw [xp_apply, ld_row0, h4]
    unfold Prm.xp
    congr 1
    exact Finset.sum_congr rfl fun l _ => by rw [hX t r l _ rfl, h2]
  · rw [ld_row1, h4]

variable (m : (ℓ : Loc nD τ sig) → Buf (Elt Ideal) ℓ)

/-- The problem's inputs, read off the launch memory. -/
def prmK (d : Dev nD) (h : InVocab (idsM m d)) : Prm where
  X t b l := tabM m d (ix2 ⟨(idsM m d (ix2 b t)).toNat, h _⟩ l)
  Wk l j := (m ((d.tc : Thread nD τ).loc main_arg2) : S64x384.Idx → EReal) (ix2 l j)
  Wr k j := (m ((d.tc : Thread nD τ).loc main_arg3) : S128x384.Idx → EReal) (ix2 k j)
  bb i j := (m ((d.tc : Thread nD τ).loc main_arg4) : S2x384.Idx → EReal) (ix2 i j)
  Wd k c := (m ((d.tc : Thread nD τ).loc main_arg5) : S128x100000.Idx → EReal) (ix2 k c)
  bd c := (m ((d.tc : Thread nD τ).loc main_arg6) : S100000.Idx → EReal) (ix1 c)

/-- The half of its pair that a token row takes is its row of the table. -/
theorem picked (d : Dev nD) (h : InVocab (idsM m d)) (t : Fin 20) (r : Fin 32) (l : Fin 64) (n : Fin 640) (hn : n.val = 32 * t.val + r.val) :
    Scalar.select (IntOp.cmpi .sgt ((V₃ m d (Proc.devRef .tc main_v4) : S640x1.Idx → BitVec 32) (ix2 n 0)) 0#32)
      ((V₃ m d (Proc.devRef .tc main_v9) : S640x128.Idx → EReal) (ix2 n ⟨64 + l.val, by omega⟩))
      ((V₃ m d (Proc.devRef .tc main_v9) : S640x128.Idx → EReal) (ix2 n ⟨l.val, by omega⟩)) = (prmK m d h).X t r l := by
  have e4 := v4_apply m d h n
  have eh := v9_apply m d h n ⟨64 + l.val, by omega⟩
  have el := v9_apply m d h n ⟨l.val, by omega⟩
  have hk : tok (idsM m d) n = idsM m d (ix2 r t) := by
    refine congrArg (idsM m d) ?_
    funext a
    apply Fin.ext
    match a with
    | 0 => show n.val % 32 = r.val; omega
    | 1 => show n.val / 32 = t.val; omega
  have hlt : (tok (idsM m d) n).toNat < 100000 := h _
  have key : ∀ v : BitVec 32, v.toNat = (tok (idsM m d) n).toNat % 2 → ∀ x y : EReal,
      Scalar.select (IntOp.cmpi .sgt v 0#32) x y = if (tok (idsM m d) n).toNat % 2 = 1 then x else y := by
    intro v hv x y
    have hv2 : v = 0#32 ∨ v = 1#32 := by
      rcases Nat.mod_two_eq_zero_or_one (tok (idsM m d) n).toNat with e | e
      · exact .inl (BitVec.eq_of_toNat_eq (by rw [hv, e]; rfl))
      · exact .inr (BitVec.eq_of_toNat_eq (by rw [hv, e]; rfl))
    rcases hv2 with rfl | rfl
    · rw [if_neg (by rw [← hv]; decide)]; rfl
    · rw [if_pos (by rw [← hv]; decide)]; rfl
  rw [key _ e4, eh, el]
  show _ = tabM m d (ix2 ⟨(idsM m d (ix2 r t)).toNat, h _⟩ l)
  have hkn : (idsM m d (ix2 r t)).toNat = (tok (idsM m d) n).toNat := by rw [hk]
  split
  · refine congrArg (tabM m d) (funext fun a => Fin.ext ?_)
    match a with
    | 0 =>
      show 2 * ((tok (idsM m d) n).toNat / 2) + (64 + l.val) / 64 = (idsM m d (ix2 r t)).toNat
      omega
    | 1 => show (64 + l.val) % 64 = l.val; omega
  · refine congrArg (tabM m d) (funext fun a => Fin.ext ?_)
    match a with
    | 0 =>
      show 2 * ((tok (idsM m d) n).toNat / 2) + l.val / 64 = (idsM m d (ix2 r t)).toNat
      omega
    | 1 => show l.val % 64 = l.val; omega

/-- Argument 2 reaches the GRU call as it was. -/
theorem V₃_arg2 (d : Dev nD) : V₃ m d (Proc.devRef .tc main_arg2) = m ((d.tc : Thread nD τ).loc main_arg2) :=
  V₃_early m d early2 (fun V => by simp only [opsA]; after_results) (by decide)
/-- Argument 3 reaches the GRU call as it was. -/
theorem V₃_arg3 (d : Dev nD) : V₃ m d (Proc.devRef .tc main_arg3) = m ((d.tc : Thread nD τ).loc main_arg3) :=
  V₃_early m d early3 (fun V => by simp only [opsA]; after_results) (by decide)
/-- Argument 4 reaches the GRU call as it was. -/
theorem V₃_arg4 (d : Dev nD) : V₃ m d (Proc.devRef .tc main_arg4) = m ((d.tc : Thread nD τ).loc main_arg4) :=
  V₃_early m d early4 (fun V => by simp only [opsA]; after_results) (by decide)

/-- What the recurrence leaves at batch row `r`, step `t`: the problem's state after that step. -/
theorem gru_value (d : Dev nD) (h : InVocab (idsM m d)) {V' : Valuation τ sig (Elt Ideal)} (hL : Left (V₃ m d) (gruDat (V₃ m d)) d V')
    (r : Fin 32) (t : Fin 20) (k : Fin 128) :
    (V' (Proc.devRef .tc main_v10) : S32x20x128.Idx → EReal) (ix3 r t k) = (prmK m d h).hid r (t.val + 1) t.isLt k := by
  rw [gru_left hL]
  exact gruOut_value (prmK m d h) _ _ _ _ _ (picked m d h) (fun l j => by rw [V₃_arg2]; rfl) (fun k j => by rw [V₃_arg3]; rfl) (fun i j => by rw [V₃_arg4]; rfl) r t k

end Cert.Proof.Lookup

end
-- ==== Proof.PayValue.lean ====
/-
  The two vocabulary passes' tile computations over extended reals, an entry at a time.
-/
module

public import proofs.«01_k».proof.Proof.Blocks
public import proofs.«01_k».proof.Proof.Spec
public import Idealize.ShloMosaic.Lib.StableHlo.Predicate

@[expose] public section

noncomputable section

namespace Cert.Proof.Lookup

open Cert.KernelIdeal Cert.KernelIdeal.Gen

open Idealize.ShloMosaic
open Idealize.ShloMosaic.TcCoe
open Cert.Proof.Soft

/-- The coordinate of a grid point is its number. -/
theorem coord2 : ∀ t : Fin grid2.N, (grid2.coords t 0).val = t.val := by decide +kernel

/-- An entry of pay5. -/
theorem pay5_apply (t : Fin grid2.N) (Y0 : Vec Ideal S640x128 .f32) (Y1 : Vec Ideal S128x2048 .f32) (Y2 : Vec Ideal S1x2048 .f32) (n : Fin 640) (j : Fin 2048) :
    (k2_pay5 (F := Ideal) (grid2.coords t) Y0 Y1 Y2) (ix2 n j)
      = if 2048 * t.val + j.val < 100000 then ((∑ k : Fin 128, Y0 (ix2 n k) * Y1 (ix2 k j)) + Y2 (ix2 0 j) : EReal) else ⊥ := by
  pointwise [k2_pay5]
  have ht : t.val < 49 := t.isLt
  have hm : Named.named (F := Ideal) κ "mask" (φ := .f32) 0xF149F2CA#32 = (⊥ : EReal) := rfl
  rw [coord2 t, hm]
  have e : (IntOp.addi (Scalar.muli (BitVec.ofNat 32 t.val) 2048#32) (BitVec.ofNat 32 j.val)).toNat = 2048 * t.val + j.val := by
    unfold IntOp.addi Scalar.muli IntOp.muli
    simp only [BitVec.toNat_add, BitVec.toNat_mul, BitVec.toNat_ofNat]
    omega
  have hs := StableHlo.Predicate.slt_iff_toNat (a := IntOp.addi (Scalar.muli (BitVec.ofNat 32 t.val) 2048#32) (BitVec.ofNat 32 j.val)) (b := 100000#32)
    (by rw [e]; omega) (by decide)
  rw [e] at hs
  unfold Scalar.select
  by_cases hc : 2048 * t.val + j.val < 100000
  · rw [if_pos hc]; exact if_pos (hs.mpr hc)
  · rw [if_neg hc]; exact if_neg (fun h => hc (hs.mp h))

/-- An entry of pay6. -/
theorem pay6_apply (t : Fin grid2.N) (Y0 : Vec Ideal S640x128 .f32) (Y1 : Vec Ideal S128x2048 .f32) (Y2 : Vec Ideal S1x2048 .f32) (m : Vec Ideal S640x1 .f32) (n : Fin 640) :
    (k2_pay6 (F := Ideal) (grid2.coords t) Y0 Y1 Y2 m) (ix2 n 0)
      = max (m (ix2 n 0)) (Finset.univ.fold max (⊥ : EReal) fun j : Fin 2048 => (k2_pay5 (F := Ideal) (grid2.coords t) Y0 Y1 Y2) (ix2 n j)) := by
  unfold k2_pay6
  generalize k2_pay5 (F := Ideal) (grid2.coords t) Y0 Y1 Y2 = L
  pointwise
  rw [ofBits_bot]

/-- An entry of pay7. -/
theorem pay7_apply (t : Fin grid2.N) (Y0 : Vec Ideal S640x128 .f32) (Y1 : Vec Ideal S128x2048 .f32) (Y2 : Vec Ideal S1x2048 .f32) (m s : Vec Ideal S640x1 .f32) (n : Fin 640) :
    (k2_pay7 (F := Ideal) (grid2.coords t) Y0 Y1 Y2 m s) (ix2 n 0)
      = (s (ix2 n 0) * Ideal.exp (m (ix2 n 0) - (k2_pay6 (F := Ideal) (grid2.coords t) Y0 Y1 Y2 m) (ix2 n 0))
        + ∑ j : Fin 2048, Ideal.exp ((k2_pay5 (F := Ideal) (grid2.coords t) Y0 Y1 Y2) (ix2 n j) - (k2_pay6 (F := Ideal) (grid2.coords t) Y0 Y1 Y2 m) (ix2 n 0)) : EReal) := by
  unfold k2_pay7
  generalize k2_pay5 (F := Ideal) (grid2.coords t) Y0 Y1 Y2 = L
  generalize k2_pay6 (F := Ideal) (grid2.coords t) Y0 Y1 Y2 m = M
  pointwise

/-- An entry of out. -/
theorem out_apply (Y0 : Vec Ideal S640x128 .f32) (Y1 : Vec Ideal S128x2048 .f32) (Y2 : Vec Ideal S1x2048 .f32) (a : Vec Ideal S640x1 .f32) (n : Fin 640) (j : Fin 2048) :
    (k3_pay1 (F := Ideal) Y0 Y1 Y2 a) (ix2 n j)
      = Ideal.exp ((∑ k : Fin 128, Y0 (ix2 n k) * Y1 (ix2 k j)) + Y2 (ix2 0 j) - a (ix2 n 0)) := by
  pointwise [k3_pay1]

/-- An entry of pay3. -/
theorem pay3_apply (n : Fin 640) : (k2_pay3 (F := Ideal)) (ix2 n 0) = (⊥ : EReal) := by
  pointwise [k2_pay3]
  rfl
/-- An entry of pay4. -/
theorem pay4_apply (n : Fin 640) : (k2_pay4 (F := Ideal)) (ix2 n 0) = (0 : EReal) := by
  pointwise [k2_pay4]
/-- The maximum kept, row by row, is the step’s new maximum. -/
theorem pay8_eq (i : grid2.Coords) (Y0 : Vec Ideal S640x128 .f32) (Y1 : Vec Ideal S128x2048 .f32) (Y2 : Vec Ideal S1x2048 .f32) (m : Vec Ideal S640x1 .f32) (n : Fin 640) :
    keepM i Y0 Y1 Y2 m (ix2 n 0) = k2_pay6 (F := Ideal) i Y0 Y1 Y2 m (ix2 n 0) := by
  unfold keepM k2_pay8
  generalize k2_pay6 (F := Ideal) i Y0 Y1 Y2 m = M
  pointwise
/-- The sum kept, row by row, is the step’s new sum. -/
theorem keepS_eq (i : grid2.Coords) (Y0 : Vec Ideal S640x128 .f32) (Y1 : Vec Ideal S128x2048 .f32) (Y2 : Vec Ideal S1x2048 .f32) (m s : Vec Ideal S640x1 .f32) (n : Fin 640) :
    keepS i Y0 Y1 Y2 m s (ix2 n 0) = k2_pay7 (F := Ideal) i Y0 Y1 Y2 m s (ix2 n 0) := by
  unfold keepS k2_pay1
  generalize k2_pay7 (F := Ideal) i Y0 Y1 Y2 m s = M
  pointwise
/-- An entry of pay2. -/
theorem pay2_apply (m s : FVec Ideal S640x1 .f32) (n : Fin 640) : k2_pay2 (F := Ideal) m s (ix2 n 0) = (m (ix2 n 0) + Ideal.log (s (ix2 n 0)) : EReal) := by
  pointwise [k2_pay2]

end Cert.Proof.Lookup

end
-- ==== Proof.StatsValue.lean ====
/-
  The two vocabulary passes over extended reals: the running pair the first keeps, and the probability the second writes.
-/
module

public import proofs.«01_k».proof.Proof.PayValue
public import proofs.«01_k».proof.Proof.Spec
public import Idealize.ShloMosaic.Lib.StableHlo.Predicate

@[expose] public section

noncomputable section

namespace Cert.Proof.Lookup

open Cert.KernelIdeal Cert.KernelIdeal.Gen

open Idealize.ShloMosaic
open Idealize.ShloMosaic.TcCoe
open Cert.Proof.Soft

section Passes

variable (V : Valuation τ sig (Elt Ideal)) (c : Dev nD)

/-- A logit from the states, the dense weight and the dense bias. -/
def logitAt (y : S640x128.Idx → EReal) (W : S128x100000.Idx → EReal) (b : S1x100000.Idx → EReal) (n : Fin 640) (j : Fin 100000) : EReal :=
  (∑ k : Fin 128, y (ix2 n k) * W (ix2 k j)) + b (ix2 0 j)

/-- The logits that a valuation's operands make are the reals `r`. -/
def Logits (r : Fin 640 → ℕ → ℝ) : Prop := ∀ (n : Fin 640) (j : Fin 100000),
  logitAt (V (Proc.devRef .tc main_v11)) (V (Proc.devRef .tc main_arg5)) (V (Proc.devRef .tc main_v12)) n j = (r n j.val : EReal)

variable {V c} {r : Fin 640 → ℕ → ℝ}

/-- One tile's masked logits. -/
theorem tile_apply (hr : Logits V r) (t : Fin grid2.N) (d0 d1 d2) (n : Fin 640) (j : Fin 2048) :
    (k2_pay5 (F := Ideal) (grid2.coords t) (stFt V c 0 t d0) (stFt V c 1 t d1) (stFt V c 2 t d2)) (ix2 n j)
      = if 2048 * t.val + j.val < 100000 then (r n (2048 * t.val + j.val) : EReal) else ⊥ := by
  rw [pay5_apply]
  by_cases hc : 2048 * t.val + j.val < 100000
  · rw [if_pos hc, if_pos hc, ← hr n ⟨2048 * t.val + j.val, hc⟩]
    unfold logitAt
    congr 1
    · exact Finset.sum_congr rfl fun k _ => congrArg₂ (fun a b : EReal => a * b) (stFt0 V c t d0 n k) (stFt1 V c t d1 k j hc)
    · exact stFt2 V c t d2 j hc
  · rw [if_neg hc, if_neg hc]

/-- One tile's step of the running pair. -/
theorem tile_step (hr : Logits V r) (t : Fin grid2.N) (d0 d1 d2) (n : Fin 640) (m s : Vec Ideal S640x1 .f32)
    (h : Run (r n) (2048 * t.val) (m (ix2 n 0)) (s (ix2 n 0))) :
    Run (r n) (min (2048 * (t.val + 1)) 100000)
      ((k2_pay6 (F := Ideal) (grid2.coords t) (stFt V c 0 t d0) (stFt V c 1 t d1) (stFt V c 2 t d2) m) (ix2 n 0))
      ((k2_pay7 (F := Ideal) (grid2.coords t) (stFt V c 0 t d0) (stFt V c 1 t d1) (stFt V c 2 t d2) m s) (ix2 n 0)) := by
  have ht : t.val < 49 := t.isLt
  rw [pay7_apply, pay6_apply]
  exact step (r n) 2048 (2048 * t.val) 100000 (by omega) (by decide) _ _ h _ fun j => tile_apply hr t d0 d1 d2 n j

/-- The kept pair after `n` tiles. -/
theorem kept_run (hr : Logits V r) (n : Fin 640) : ∀ (k : ℕ) (_ : k ≤ 49) (m s : Vec Ideal S640x1 .f32), Kept V c k m s →
    Run (r n) (min (2048 * k) 100000) (m (ix2 n 0)) (s (ix2 n 0))
  | 0, _, m, s, h => .inl ⟨rfl, by rw [h.1]; exact pay3_apply n, by rw [h.2]; exact pay4_apply n⟩
  | k + 1, hk, m, s, h => by
    obtain ⟨m', s', h', hN, d0, d1, d2, em, es⟩ := h
    have ih := kept_run hr n k (by omega) m' s' h'
    rw [Nat.min_eq_left (by omega)] at ih
    rw [em, es, pay8_eq, keepS_eq]
    exact tile_step hr ⟨k, hN⟩ d0 d1 d2 n m' s' ih

/-- The first pass leaves, in each row, the normaliser: the kept maximum plus the logarithm of the kept sum. -/
theorem stats_value (hr : Logits V r) {V' : Valuation τ sig (Elt Ideal)} (h : Left V (statsDat V) c V') (n : Fin 640) :
    ∃ m s : EReal, Run (r n) 100000 m s ∧ (V' (Proc.devRef .tc main_v13) : S640x1.Idx → EReal) (ix2 n 0) = m + Ideal.log s := by
  obtain ⟨m, s, d0, d1, d2, hk, e⟩ := stats_left h
  rw [e]
  have ih := kept_run hr n 48 (by omega) m s hk
  exact ⟨_, _, tile_step hr ⟨48, by decide⟩ d0 d1 d2 n m s ih, pay2_apply _ _ n⟩

/-- The second pass leaves the probabilities. -/
theorem out_value (hr : Logits V r) (ha : ∀ n : Fin 640, ∃ m s : EReal, Run (r n) 100000 m s ∧ (V (Proc.devRef .tc main_v13) : S640x1.Idx → EReal) (ix2 n 0) = m + Ideal.log s)
    {V' : Valuation τ sig (Elt Ideal)} (h : Left V (outDat V) c V') :
    V' (Proc.devRef .tc main_v14) = (fun i => ((prob 100000 (r (i 0)) (i 1).val : ℝ) : EReal) : S640x100000.Idx → EReal) := by
  refine out_left h _ fun t X hX n j hj => ?_
  obtain ⟨d0, d1, d2, d3, e⟩ := hX
  rw [e]
  refine (out_apply _ _ _ _ n j).trans ?_
  obtain ⟨m, s, hR, ea⟩ := ha n
  refine Eq.trans ?_ (kernel_prob (r n) 100000 (2048 * t.val + j.val) (by decide) m s hR)
  rw [← ea, ← hr n ⟨2048 * t.val + j.val, hj⟩]
  unfold logitAt
  refine congrArg Ideal.exp (congrArg₂ (fun a b : EReal => a - b) (congrArg₂ (fun a b : EReal => a + b) ?_ (outFt2 V c t d2 j hj)) (outFt3 V c t d3 n))
  exact Finset.sum_congr rfl fun k _ => congrArg₂ (fun a b : EReal => a * b) (outFt0 V c t d0 n k) (outFt1 V c t d1 k j hj)

end Passes

end Cert.Proof.Lookup

end
-- ==== Proof.KernelValue.lean ====
/-
  The whole kernel's result over extended reals: the problem's probabilities.
-/
module

public import proofs.«01_k».proof.Proof.Args
public import proofs.«01_k».proof.Proof.GruValue
public import proofs.«01_k».proof.Proof.StatsValue

@[expose] public section

noncomputable section

namespace Cert.Proof.Lookup

open Cert.KernelIdeal Cert.KernelIdeal.Gen

open Idealize.ShloMosaic
open Idealize.ShloMosaic.TcCoe
open Idealize.ShloMosaic.StableHlo
open Cert.Proof.Soft
open scoped BigOperators

/-- The batch row and the step of a token row. -/
abbrev bOf (n : Fin 640) : Fin 32 := ⟨n.val / 20, by omega⟩
abbrev tOf (n : Fin 640) : Fin 20 := ⟨n.val % 20, by omega⟩

/-- The states flattened, read at an entry. -/
theorem flat_apply (y : S32x20x128.Idx → EReal) (n : Fin 640) (k : Fin 128) :
    (shapeCast S640x128 y shapeCasts_S32x20x128_S640x128) (ix2 n k) = y (ix3 (bOf n) (tOf n) k) := by
  pointwise

/-- The bias as a row, read at an entry. -/
theorem biasRow_apply (b : S100000.Idx → EReal) (j : Fin 100000) :
    (shapeCast S1x100000 b shapeCasts_S100000_S1x100000) (ix2 0 j) = b (ix1 j) := by
  pointwise

/-- The result in its two batch axes, read at an entry. -/
theorem unflat_apply (y : S640x100000.Idx → EReal) (b : Fin 32) (t : Fin 20) (c : Fin 100000) :
    (shapeCast S32x20x100000 y shapeCasts_S640x100000_S32x20x100000) (ix3 b t c) = y (ix2 ⟨20 * b.val + t.val, by omega⟩ c) := by
  pointwise
  refine congrArg (fun i => y (ix2 i c)) (Fin.ext ?_)
  show b.val * 20 + t.val = 20 * b.val + t.val
  omega

/-- Logits from flattened states, the dense weight and the bias row. -/
theorem logitAt_eq (P : Prm) (y : S640x128.Idx → EReal) (W : S128x100000.Idx → EReal) (b : S1x100000.Idx → EReal)
    (hy : ∀ (n : Fin 640) (k : Fin 128), y (ix2 n k) = P.hid (bOf n) ((tOf n).val + 1) (tOf n).isLt k)
    (hW : ∀ (k : Fin 128) (c : Fin 100000), W (ix2 k c) = P.Wd k c) (hb : ∀ c : Fin 100000, b (ix2 0 c) = P.bd c) (n : Fin 640) (j : Fin 100000) :
    logitAt y W b n j = P.logit (bOf n) (tOf n) j := by
  unfold logitAt Prm.logit
  rw [hb]
  refine congrArg (· + P.bd j) (Finset.sum_congr rfl fun k _ => ?_)
  rw [hy, hW]

variable {m : (ℓ : Loc nD τ sig) → Buf (Elt Ideal) ℓ} {d : Dev nD}

/-- What the passes are handed. -/
theorem v11_value (h : InVocab (idsM m d)) {V₄ : Valuation τ sig (Elt Ideal)} (h4 : Left (V₃ m d) (gruDat (V₃ m d)) d V₄) (n : Fin 640) (k : Fin 128) :
    (after opsB V₄ (Proc.devRef .tc main_v11) : S640x128.Idx → EReal) (ix2 n k) = (prmK m d h).hid (bOf n) ((tOf n).val + 1) (tOf n).isLt k := by
  rw [opsB_v11]
  exact (flat_apply _ n k).trans (gru_value m d h h4 (bOf n) (tOf n) k)
/-- The dense kernel as the output call finds it. -/
theorem arg5_value {V₄ : Valuation τ sig (Elt Ideal)} (h4 : Left (V₃ m d) (gruDat (V₃ m d)) d V₄) :
    after opsB V₄ (Proc.devRef .tc main_arg5) = m ((d.tc : Thread nD τ).loc main_arg5) := by
  rw [opsB_keep _ (by decide) (by decide), gru_keep _ d h4 (by decide), V₃_arg5]
/-- The dense bias as the output call finds it. -/
theorem v12_value {V₄ : Valuation τ sig (Elt Ideal)} (h4 : Left (V₃ m d) (gruDat (V₃ m d)) d V₄) (j : Fin 100000) :
    (after opsB V₄ (Proc.devRef .tc main_v12) : S1x100000.Idx → EReal) (ix2 0 j) = (m ((d.tc : Thread nD τ).loc main_arg6) : S100000.Idx → EReal) (ix1 j) := by
  rw [opsB_v12, gru_keep _ d h4 (by decide), V₃_arg6]
  exact biasRow_apply _ j

/-- The logits the first pass is handed are the problem's. -/
theorem logits_stats (h : InVocab (idsM m d)) (hW : ∀ k c, IsReal ((prmK m d h).Wd k c)) (hb : ∀ c, IsReal ((prmK m d h).bd c))
    {V₄ : Valuation τ sig (Elt Ideal)} (h4 : Left (V₃ m d) (gruDat (V₃ m d)) d V₄) :
    Logits (after opsB V₄) fun n => (prmK m d h).row (bOf n) (tOf n) := by
  intro n j
  refine (logitAt_eq (prmK m d h) _ _ _ (v11_value h h4) (fun k c => ?_) (fun c => v12_value h4 c) n j).trans ((prmK m d h).logit_real hW hb _ _ j)
  rw [arg5_value h4]
  rfl

/-- The second pass is handed the same. -/
theorem logits_keep {V V' : Valuation τ sig (Elt Ideal)} {r : Fin 640 → ℕ → ℝ} (hV : Logits V r) (h : Left V (statsDat V) d V') : Logits V' r := by
  unfold Logits
  rw [stats_keep0 V d h, stats_keep1 V d h, stats_keep2 V d h]
  exact hV

/-- The kernel's result, an entry at a time: the problem's probability. -/
theorem result_value (h : InVocab (idsM m d)) (hW : ∀ k c, IsReal ((prmK m d h).Wd k c)) (hb : ∀ c, IsReal ((prmK m d h).bd c))
    {V : Valuation τ sig (Elt Ideal)} (hV : EndRel m d V) (b : Fin 32) (t : Fin 20) (c : Fin 100000) :
    (V (Proc.devRef .tc main_v15) : S32x20x100000.Idx → EReal) (ix3 b t c) = (prmK m d h).out b t c := by
  obtain ⟨V₄, V₆, V₇, h4, h6, h7, rfl⟩ := hV
  have hl := logits_stats h hW hb h4
  have ho := out_value (logits_keep hl h6) (fun n => stats_value hl h6 n) h7
  rw [opsC_v15, ho]
  refine (unflat_apply _ b t c).trans ?_
  have e1 : bOf ⟨20 * b.val + t.val, by omega⟩ = b := Fin.ext (by show (20 * b.val + t.val) / 20 = b.val; omega)
  have e2 : tOf ⟨20 * b.val + t.val, by omega⟩ = t := Fin.ext (by show (20 * b.val + t.val) % 20 = t.val; omega)
  show ((prob 100000 ((prmK m d h).row (bOf ⟨20 * b.val + t.val, by omega⟩) (tOf ⟨20 * b.val + t.val, by omega⟩)) c.val : ℝ) : EReal) = _
  rw [e1, e2]
  rfl

end Cert.Proof.Lookup

end
-- ==== Proof.RefEntry.lean ====
/-
  The reference where its recurrence starts: the looked-up rows, time first, the weights and the two bias rows, the counter
  and the states at zero.
-/
module

public import proofs.«01_k».proof.Proof.Spec
public import proofs.«01_k».proof.Proof.Gen.ReferenceIdeal.Run
public import Idealize.ShloMosaic.Lib.Pointwise
public import Idealize.ShloMosaic.Lib.StableHlo.Predicate

@[expose] public section

noncomputable section

namespace Cert.Proof.Ref

open Cert.ReferenceIdeal Cert.ReferenceIdeal.Gen Cert.ReferenceIdeal.Value

open Idealize.ShloMosaic
open Idealize.ShloMosaic.TcCoe
open Idealize.ShloMosaic.StableHlo
open Cert.Proof.Soft
open scoped BigOperators

/-- Every index names a row. -/
def Named (ids : S32x20.Idx → BitVec 32) : Prop := ∀ j, (ids j).toNat < 100000

/-- The lookup at an entry: the row is the index, clamped to the table. -/
theorem gather_apply {α : Type} (tab : S100000x64.Idx → α) (idx : S32x20x1.Idx → BitVec 32) (a : Fin 32) (b : Fin 20) (c : Fin 64) :
    Host.gather gather_S100000x64_S32x20x1_S32x20x64_2_0_n_n_0_2_164 tab idx (ix3 a b c)
      = tab (ix2 ⟨min (idx (ix3 a b 0)).toInt.toNat 99999, by omega⟩ c) := by
  unfold Host.gather
  refine congrArg tab (funext fun x => Fin.ext ?_)
  match x with
  | ⟨0, _⟩ =>
    show GatherDims.start _ (ix3 a b c) idx 0 + GatherDims.batchCoord _ (ix3 a b c) 0 + GatherDims.offCoord _ (ix3 a b c) 0 = min (idx (ix3 a b 0)).toInt.toNat 99999
    rw [GatherDims.batchCoord_eq_zero _ _ _ (by decide), GatherDims.offCoord_eq_zero _ _ _ (by decide)]
    unfold GatherDims.start
    rw [dif_pos (by decide)]
    refine congrArg (fun i => min (idx i).toInt.toNat 99999) (funext fun y => ?_)
    match y with
    | ⟨0, _⟩ => rfl
    | ⟨1, _⟩ => rfl
    | ⟨2, _⟩ => rfl
  | ⟨1, _⟩ =>
    show GatherDims.start _ (ix3 a b c) idx 1 + GatherDims.batchCoord _ (ix3 a b c) 1 + GatherDims.offCoord _ (ix3 a b c) 1 = c.val
    rw [GatherDims.batchCoord_eq_zero _ _ _ (by decide)]
    unfold GatherDims.start
    rw [dif_neg (by decide)]
    exact (Nat.zero_add _).trans rfl

/-- An index that names a row is not negative, and not past the last row. -/
theorem slt_zero {v : BitVec 32} (h : v.toNat < 100000) : IntOp.cmpi .slt v 0#32 = 0#1 := by
  simp only [IntOp.cmpi, BitVec.slt_eq_decide, BitVec.toInt_eq_toNat_cond, BitVec.toNat_ofNat, Nat.reducePow, Nat.reduceMod]
  rw [show decide _ = false from decide_eq_false (by omega)]; rfl
/-- An index that names a row is not negative. -/
theorem sge_zero {v : BitVec 32} (h : v.toNat < 100000) : IntOp.cmpi .sge v 0#32 = 1#1 := by
  simp only [IntOp.cmpi, BitVec.sle_eq_decide, BitVec.toInt_eq_toNat_cond, BitVec.toNat_ofNat, Nat.reducePow, Nat.reduceMod]
  rw [show decide _ = true from decide_eq_true (by omega)]; rfl
/-- An index that names a row is at most the last row. -/
theorem sle_last {v : BitVec 32} (h : v.toNat < 100000) : IntOp.cmpi .sle v 99999#32 = 1#1 := by
  simp only [IntOp.cmpi, BitVec.sle_eq_decide, BitVec.toInt_eq_toNat_cond, BitVec.toNat_ofNat, Nat.reducePow, Nat.reduceMod]
  rw [show decide _ = true from decide_eq_true (by omega)]; rfl

/-- The start indices looked up at: the indices themselves, the wrap of negative ones not taken. -/
theorem start_word (ids : S32x20.Idx → BitVec 32) (h : Named ids) (a : Fin 32) (b : Fin 20) :
    broadcastInDim S32x20x1 ![0, 1] bcast_S32x20_S32x20x1_0_1 (select (cmpi .slt ids (broadcastInDim S32x20 ![] bcast_S_S32x20 (constantI S_ 32 0#32))) (addi ids (broadcastInDim S32x20 ![] bcast_S_S32x20 (constantI S_ 32 100000#32))) ids) (ix3 a b 0)
      = ids (ix2 a b) := by
  pointwise
  rw [slt_zero (h _)]
  rfl

/-- The range check at an index that names a row: passed. -/
theorem in_range {v : BitVec 32} (h : v.toNat < 100000) :
    Finset.fold IntOp.andi (1#1) (fun _ : Fin 1 => IntOp.andi
      (IntOp.cmpi .sge (Scalar.select (IntOp.cmpi .slt v 0#32) (IntOp.addi v 100000#32) v) 0#32)
      (IntOp.cmpi .sle (Scalar.select (IntOp.cmpi .slt v 0#32) (IntOp.addi v 100000#32) v) 99999#32)) Finset.univ = 1#1 := by
  rw [slt_zero h, show Scalar.select 0#1 (IntOp.addi v 100000#32) v = v from rfl, sge_zero h, sle_last h]
  decide

/-- The looked-up rows: the wrap, the range check, the lookup, the fill. -/
def take (ids : S32x20.Idx → BitVec 32) (tab : S100000x64.Idx → EReal) : S32x20x64.Idx → EReal :=
  select (broadcastInDim S32x20x64 ![0, 1] bcast_S32x20_S32x20x64_0_1 (Host.reduce IntOp.andi (andi (cmpi .sge (broadcastInDim S32x20x1 ![0, 1] bcast_S32x20_S32x20x1_0_1 (select (cmpi .slt ids (broadcastInDim S32x20 ![] bcast_S_S32x20 (constantI S_ 32 0#32))) (addi ids (broadcastInDim S32x20 ![] bcast_S_S32x20 (constantI S_ 32 100000#32))) ids)) (broadcastInDim S32x20x1 ![] bcast_S_S32x20x1 (constantI S_ 32 0#32))) (cmpi .sle (broadcastInDim S32x20x1 ![0, 1] bcast_S32x20_S32x20x1_0_1 (select (cmpi .slt ids (broadcastInDim S32x20 ![] bcast_S_S32x20 (constantI S_ 32 0#32))) (addi ids (broadcastInDim S32x20 ![] bcast_S_S32x20 (constantI S_ 32 100000#32))) ids)) (broadcastInDim S32x20x1 ![0, 1, 2] bcast_S1x1x1_S32x20x1_0_1_2 (broadcastInDim S1x1x1 ![2] bcast_S1_S1x1x1_2 (constantI S1 32 99999#32))))) (constantI S_ 1 1#1) reducesTo_S32x20x1_S32x20_d2 h_S_)) (Host.gather gather_S100000x64_S32x20x1_S32x20x64_2_0_n_n_0_2_164 tab (broadcastInDim S32x20x1 ![0, 1] bcast_S32x20_S32x20x1_0_1 (select (cmpi .slt ids (broadcastInDim S32x20 ![] bcast_S_S32x20 (constantI S_ 32 0#32))) (addi ids (broadcastInDim S32x20 ![] bcast_S_S32x20 (constantI S_ 32 100000#32))) ids))) (broadcastInDim S32x20x64 ![] bcast_S_S32x20x64 (constant (F := Ideal) S_ .f32 0x7FC00000#32))

/-- Under the precondition the lookup is the rows the indices name. -/
theorem take_apply (ids : S32x20.Idx → BitVec 32) (tab : S100000x64.Idx → EReal) (h : Named ids) (b : Fin 32) (t : Fin 20) (l : Fin 64) :
    take ids tab (ix3 b t l) = tab (ix2 ⟨(ids (ix2 b t)).toNat, h _⟩ l) := by
  have hv := h (ix2 b t)
  have hg := gather_apply tab (broadcastInDim S32x20x1 ![0, 1] bcast_S32x20_S32x20x1_0_1 (select (cmpi .slt ids (broadcastInDim S32x20 ![] bcast_S_S32x20 (constantI S_ 32 0#32))) (addi ids (broadcastInDim S32x20 ![] bcast_S_S32x20 (constantI S_ 32 100000#32))) ids)) b t l
  have hs := start_word ids h b t
  have hsel : ∀ (c : BitVec 1) (x y z : EReal), c = 1#1 → x = z → Scalar.select c x y = z := by
    rintro _ x y _ rfl rfl; rfl
  pointwise [take]
  refine hsel _ _ _ _ ?_ (hg.trans ?_)
  · exact in_range hv
  · refine congrArg (fun r => tab (ix2 r l)) (Fin.ext ?_)
    refine Eq.trans (congrArg (fun v : BitVec 32 => min v.toInt.toNat 99999) hs) ?_
    show min (ids (ix2 b t)).toInt.toNat 99999 = (ids (ix2 b t)).toNat
    simp only [BitVec.toInt_eq_toNat_cond]
    omega

variable (m : (ℓ : Loc nD τ sig) → Buf (Elt Ideal) ℓ)

/-- The inputs, from the reference's memory. -/
def prmR (d : Dev nD) (h : Named (m ((d.tc : Thread nD τ).loc main_arg0))) : Prm where
  X t b l := (m ((d.tc : Thread nD τ).loc main_arg1) : S100000x64.Idx → EReal) (ix2 ⟨((m ((d.tc : Thread nD τ).loc main_arg0) : S32x20.Idx → BitVec 32) (ix2 b t)).toNat, h _⟩ l)
  Wk l j := (m ((d.tc : Thread nD τ).loc main_arg2) : S64x384.Idx → EReal) (ix2 l j)
  Wr k j := (m ((d.tc : Thread nD τ).loc main_arg3) : S128x384.Idx → EReal) (ix2 k j)
  bb i j := (m ((d.tc : Thread nD τ).loc main_arg4) : S2x384.Idx → EReal) (ix2 i j)
  Wd k c := (m ((d.tc : Thread nD τ).loc main_arg5) : S128x100000.Idx → EReal) (ix2 k c)
  bd c := (m ((d.tc : Thread nD τ).loc main_arg6) : S100000.Idx → EReal) (ix1 c)

variable (d : Dev nD)

/-- What the loop starts from. -/
theorem entry_v0 : entryContents preI m d (Proc.devRef .tc main_v8_0)
    = (transpose S20x32x64 [1, 0, 2] (take (m ((d.tc : Thread nD τ).loc main_arg0)) (m ((d.tc : Thread nD τ).loc main_arg1))) transposes_S32x20x64_S20x32x64_1_0_2 : S20x32x64.Idx → EReal) := by
  simp only [entryContents, afterL_cons, afterL_nil]
  after_reads_simp
  rfl
/-- What v1 holds where the scan starts. -/
theorem entry_v1 : entryContents preI m d (Proc.devRef .tc main_v8_1) = m ((d.tc : Thread nD τ).loc main_arg2) := by
  simp only [entryContents, afterL_cons, afterL_nil]
  after_reads_simp
  rfl
/-- What v2 holds where the scan starts. -/
theorem entry_v2 : entryContents preI m d (Proc.devRef .tc main_v8_2)
    = (shapeCast S384 (extractStridedSlice S1x384 ![0, 0] (m ((d.tc : Thread nD τ).loc main_arg4) : S2x384.Idx → EReal) slices_S2x384_S1x384_0_0) shapeCasts_S1x384_S384 : S384.Idx → EReal) := by
  simp only [entryContents, afterL_cons, afterL_nil]
  after_reads_simp
  rfl
/-- What v3 holds where the scan starts. -/
theorem entry_v3 : entryContents preI m d (Proc.devRef .tc main_v8_3) = m ((d.tc : Thread nD τ).loc main_arg3) := by
  simp only [entryContents, afterL_cons, afterL_nil]
  after_reads_simp
  rfl
/-- What v4 holds where the scan starts. -/
theorem entry_v4 : entryContents preI m d (Proc.devRef .tc main_v8_4)
    = (shapeCast S384 (extractStridedSlice S1x384 ![1, 0] (m ((d.tc : Thread nD τ).loc main_arg4) : S2x384.Idx → EReal) slices_S2x384_S1x384_1_0) shapeCasts_S1x384_S384 : S384.Idx → EReal) := by
  simp only [entryContents, afterL_cons, afterL_nil]
  after_reads_simp
  rfl
/-- What v6 holds where the scan starts. -/
theorem entry_v6 : entryContents preI m d (Proc.devRef .tc main_v8_6)
    = (broadcastInDim S32x128 ![] bcast_S_S32x128 (constant (F := Ideal) S_ .f32 0x00000000#32) : S32x128.Idx → EReal) := by
  simp only [entryContents, afterL_cons, afterL_nil]
  after_reads_simp
  rfl

end Cert.Proof.Ref

end
-- ==== Proof.RefStep.lean ====
/-
  The reference's recurrence: what each trip keeps and what twenty trips leave.
-/
module

public import proofs.«01_k».proof.Proof.RefEntry
public import Idealize.ShloMosaic.Lib.WordCmp

@[expose] public section

noncomputable section

namespace Cert.Proof.Ref

open Cert.ReferenceIdeal Cert.ReferenceIdeal.Gen Cert.ReferenceIdeal.Value

open Idealize.ShloMosaic
open Idealize.ShloMosaic.TcCoe
open Idealize.ShloMosaic.StableHlo
open Cert.Proof.Soft
open scoped BigOperators

/-- The starts of a trip's block: the counter along the first axis. -/
def starts (c : S_.Idx → BitVec 32) : Fin 3 → Int := fun k =>
  (((![c, constantI S_ 32 0#32, constantI S_ 32 0#32] : Fin 3 → (S_.Idx → BitVec 32))) k (Shape.Idx.first h_S_)).toInt

/-- The slice of step k starts at row k. -/
theorem starts_eq {k : ℕ} (hk : k < 20) (c : S_.Idx → BitVec 32) (hc : c = fun _ => BitVec.ofNat 32 k) (a : Fin 3) : starts c a = ((![k, 0, 0] : Fin 3 → ℕ) a : Int) := by
  subst hc
  match a with
  | 0 =>
    show (BitVec.ofNat 32 k).toInt = (k : Int)
    rw [BitVec.toInt_eq_toNat_cond, BitVec.toNat_ofNat, Nat.mod_eq_of_lt (by omega), if_pos (by omega)]
  | 1 => rfl
  | 2 => rfl

/-- One trip's input projection. -/
def xR (x : FVec Ideal S20x32x64 .f32) (c : S_.Idx → BitVec 32) (W : FVec Ideal S64x384 .f32) (b : FVec Ideal S384 .f32) : FVec Ideal S32x384 .f32 :=
  addf (Host.dotGeneral dot_S32x64_S64x384_S32x384_1_0_0_1_n_n none (shapeCast S32x64 (Host.dynamicSlice S1x32x64 x (starts c) sliceFits_S20x32x64_S1x32x64) shapeCasts_S1x32x64_S32x64) W) (broadcastInDim S32x384 ![0, 1] bcast_S1x384_S32x384_0_1 (broadcastInDim S1x384 ![1] bcast_S384_S1x384_1 b))

/-- One trip's state projection. -/
def gR (h : FVec Ideal S32x128 .f32) (W : FVec Ideal S128x384 .f32) (b : FVec Ideal S384 .f32) : FVec Ideal S32x384 .f32 :=
  addf (Host.dotGeneral dot_S32x128_S128x384_S32x384_1_0_0_1_n_n none h W) (broadcastInDim S32x384 ![0, 1] bcast_S1x384_S32x384_0_1 (broadcastInDim S1x384 ![1] bcast_S384_S1x384_1 b))

/-- One trip's update gate. -/
def zR (x g : FVec Ideal S32x384 .f32) : FVec Ideal S32x128 .f32 :=
  Host.divf (broadcastInDim S32x128 ![] bcast_S_S32x128 (constant S_ .f32 0x3F800000#32)) (addf (broadcastInDim S32x128 ![] bcast_S_S32x128 (constant S_ .f32 0x3F800000#32)) (Host.exp (Host.negf (addf (extractStridedSlice S32x128 ![0, 0] x slices_S32x384_S32x128_0_0) (extractStridedSlice S32x128 ![0, 0] g slices_S32x384_S32x128_0_0)))))

/-- One trip's new state. -/
def nextR (x g : FVec Ideal S32x384 .f32) (h : FVec Ideal S32x128 .f32) : FVec Ideal S32x128 .f32 :=
  addf (mulf (zR x g) h) (mulf (subf (broadcastInDim S32x128 ![] bcast_S_S32x128 (constant S_ .f32 0x3F800000#32)) (zR x g)) (Host.tanh (addf (extractStridedSlice S32x128 ![0, 256] x slices_S32x384_S32x128_0_256) (mulf (Host.divf (broadcastInDim S32x128 ![] bcast_S_S32x128 (constant S_ .f32 0x3F800000#32)) (addf (broadcastInDim S32x128 ![] bcast_S_S32x128 (constant S_ .f32 0x3F800000#32)) (Host.exp (Host.negf (addf (extractStridedSlice S32x128 ![0, 128] x slices_S32x384_S32x128_0_128) (extractStridedSlice S32x128 ![0, 128] g slices_S32x384_S32x128_0_128)))))) (extractStridedSlice S32x128 ![0, 256] g slices_S32x384_S32x128_0_256)))))

/-- An entry of xR. -/
theorem xR_apply {k : ℕ} (hk : k < 20) (x : FVec Ideal S20x32x64 .f32) (c : S_.Idx → BitVec 32) (hc : c = fun _ => BitVec.ofNat 32 k) (W : FVec Ideal S64x384 .f32)
    (b : FVec Ideal S384 .f32) (r : Fin 32) (j : Fin 384) :
    xR x c W b (ix2 r j) = ((∑ l : Fin 64, x (ix3 ⟨k, hk⟩ r l) * W (ix2 l j)) + b (ix1 j) : EReal) := by
  unfold xR
  rw [WordCmp.dynamicSlice_eq_extract S1x32x64 x (starts c) _ ![k, 0, 0] ⟨rfl, fun a => by
    match a with
    | 0 => show k + 1 ≤ 20; omega
    | 1 => show 0 + 32 ≤ 32; omega
    | 2 => show 0 + 64 ≤ 64; omega⟩ (starts_eq hk c hc)]
  pointwise

/-- An entry of gR. -/
theorem gR_apply (h : FVec Ideal S32x128 .f32) (W : FVec Ideal S128x384 .f32) (b : FVec Ideal S384 .f32) (r : Fin 32) (j : Fin 384) :
    gR h W b (ix2 r j) = ((∑ k : Fin 128, h (ix2 r k) * W (ix2 k j)) + b (ix1 j) : EReal) := by
  pointwise [gR]

/-- An entry of nextR. -/
theorem nextR_apply (x g : FVec Ideal S32x384 .f32) (h : FVec Ideal S32x128 .f32) (r : Fin 32) (k : Fin 128) :
    nextR x g h (ix2 r k) = cell (fun j => x (ix2 r j)) (fun j => g (ix2 r j)) (fun j => h (ix2 r j)) k := by
  pointwise [nextR, zR]
  rfl

/-- The stacked states after a trip: row `k` replaced, the others kept. -/
theorem stack_apply {k : ℕ} (hk : k < 20) (y : FVec Ideal S20x32x128 .f32) (u : FVec Ideal S32x128 .f32) (c : S_.Idx → BitVec 32) (hc : c = fun _ => BitVec.ofNat 32 k)
    (t : Fin 20) (r : Fin 32) (j : Fin 128) :
    Host.dynamicUpdateSlice y (broadcastInDim S1x32x128 ![1, 2] bcast_S32x128_S1x32x128_1_2 u) (starts c) updateFits_S20x32x128_S1x32x128 (ix3 t r j)
      = if t.val = k then u (ix2 r j) else y (ix3 t r j) := by
  refine (congrFun (WordCmp.dynamicUpdateSlice_eq_update y (broadcastInDim S1x32x128 ![1, 2] bcast_S32x128_S1x32x128_1_2 u) (starts c) _ ![k, 0, 0] ⟨rfl, fun a => by
    match a with
    | 0 => show k + 1 ≤ 20; omega
    | 1 => show 0 + 32 ≤ 32; omega
    | 2 => show 0 + 128 ≤ 128; omega⟩ (starts_eq hk c hc)) _).trans ?_
  pointwise
  by_cases e : t.val = k
  · rw [dif_pos (by omega), if_pos e]
  · rw [dif_neg (by omega), if_neg e]

/-- What holds of the carried buffers before the trip numbered `k`. -/
structure Inv (P : Prm) (k : ℕ) (hk : k ≤ 20) (V : Valuation τ sig (Elt Ideal)) : Prop where
  x : ∀ (t : Fin 20) (b : Fin 32) (l : Fin 64), (V (Proc.devRef .tc main_v8_0) : S20x32x64.Idx → EReal) (ix3 t b l) = P.X t b l
  wk : ∀ (l : Fin 64) (j : Fin 384), (V (Proc.devRef .tc main_v8_1) : S64x384.Idx → EReal) (ix2 l j) = P.Wk l j
  b0 : ∀ j : Fin 384, (V (Proc.devRef .tc main_v8_2) : S384.Idx → EReal) (ix1 j) = P.bb 0 j
  wr : ∀ (i : Fin 128) (j : Fin 384), (V (Proc.devRef .tc main_v8_3) : S128x384.Idx → EReal) (ix2 i j) = P.Wr i j
  b1 : ∀ j : Fin 384, (V (Proc.devRef .tc main_v8_4) : S384.Idx → EReal) (ix1 j) = P.bb 1 j
  ctr : (V (Proc.devRef .tc main_v8_5) : S_.Idx → BitVec 32) = fun _ => BitVec.ofNat 32 k
  st : ∀ (r : Fin 32) (j : Fin 128), (V (Proc.devRef .tc main_v8_6) : S32x128.Idx → EReal) (ix2 r j) = P.hid r k hk j
  stack : ∀ (t : Fin 20) (r : Fin 32) (j : Fin 128), t.val < k → (V (Proc.devRef .tc main_v8_7) : S20x32x128.Idx → EReal) (ix3 t r j) = P.hid r (t.val + 1) t.isLt j

variable {P : Prm} {V : Valuation τ sig (Elt Ideal)}

/-- A trip's new state is the problem's next state. -/
theorem next_of {k : ℕ} (hk : k < 20) (x : FVec Ideal S20x32x64 .f32) (c : S_.Idx → BitVec 32) (hc : c = fun _ => BitVec.ofNat 32 k) (Wk : FVec Ideal S64x384 .f32)
    (b0 : FVec Ideal S384 .f32) (h : FVec Ideal S32x128 .f32) (Wr : FVec Ideal S128x384 .f32) (b1 : FVec Ideal S384 .f32)
    (hx : ∀ (t : Fin 20) (b : Fin 32) (l : Fin 64), x (ix3 t b l) = P.X t b l) (hk0 : ∀ (l : Fin 64) (j : Fin 384), Wk (ix2 l j) = P.Wk l j)
    (hb0 : ∀ j : Fin 384, b0 (ix1 j) = P.bb 0 j) (hw : ∀ (i : Fin 128) (j : Fin 384), Wr (ix2 i j) = P.Wr i j) (hb1 : ∀ j : Fin 384, b1 (ix1 j) = P.bb 1 j)
    (hh : ∀ (r : Fin 32) (j : Fin 128), h (ix2 r j) = P.hid r k (Nat.le_of_succ_le hk) j) (r : Fin 32) (j : Fin 128) :
    nextR (xR x c Wk b0) (gR h Wr b1) h (ix2 r j) = P.hid r (k + 1) hk j := by
  rw [nextR_apply]
  show _ = cell (P.xp ⟨k, hk⟩ r) (P.gp (P.hid r k (Nat.le_of_succ_le hk))) (P.hid r k (Nat.le_of_succ_le hk)) j
  have e1 : (fun j => xR x c Wk b0 (ix2 r j)) = P.xp ⟨k, hk⟩ r := by
    funext i
    rw [xR_apply hk x c hc, hb0]
    refine congrArg (· + P.bb 0 i) (Finset.sum_congr rfl fun l _ => ?_)
    rw [hx, hk0]
  have e2 : (fun j => gR h Wr b1 (ix2 r j)) = P.gp (P.hid r k (Nat.le_of_succ_le hk)) := by
    funext i
    rw [gR_apply, hb1]
    refine congrArg (· + P.bb 1 i) (Finset.sum_congr rfl fun l _ => ?_)
    rw [hh, hw]
  have e3 : (fun j => h (ix2 r j)) = P.hid r k (Nat.le_of_succ_le hk) := funext fun i => hh r i
  rw [e1, e2, e3]

/-- The trip's new state, in the carried buffers. -/
theorem step6_eq : step_main_v8_6 V = nextR (xR (V (Proc.devRef .tc main_v8_0)) (V (Proc.devRef .tc main_v8_5)) (V (Proc.devRef .tc main_v8_1)) (V (Proc.devRef .tc main_v8_2)))
    (gR (V (Proc.devRef .tc main_v8_6)) (V (Proc.devRef .tc main_v8_3)) (V (Proc.devRef .tc main_v8_4))) (V (Proc.devRef .tc main_v8_6)) := by
  unfold step_main_v8_6 res_main_while0b_v61 res_main_while0b_v46 res_main_while0b_v29 res_main_while0b_v33 nextR zR xR gR starts
  rfl
/-- The rows the scan has written after one more step. -/
theorem step7_eq : step_main_v8_7 V = Host.dynamicUpdateSlice (V (Proc.devRef .tc main_v8_7) : FVec Ideal S20x32x128 .f32)
    (broadcastInDim S1x32x128 ![1, 2] bcast_S32x128_S1x32x128_1_2 (step_main_v8_6 V)) (starts (V (Proc.devRef .tc main_v8_5))) updateFits_S20x32x128_S1x32x128 := by
  unfold step_main_v8_7 step_main_v8_6 starts
  rfl

/-- The scan’s counter goes up by one. -/
theorem ctr_succ (c : S_.Idx → BitVec 32) {k : ℕ} (h : c = fun _ => BitVec.ofNat 32 k) : (addi c (constantI S_ 32 1#32) : S_.Idx → BitVec 32) = fun _ => BitVec.ofNat 32 (k + 1) := by
  subst h
  funext i
  show BitVec.ofNat 32 k + 1#32 = BitVec.ofNat 32 (k + 1)
  rw [BitVec.ofNat_add]

/-- One trip keeps the invariant. -/
theorem Inv.step {k : ℕ} {hk : k < 20} (h : Inv P k (Nat.le_of_succ_le hk) V) : Inv P (k + 1) hk (STEP V) := by
  have h6 : ∀ (r : Fin 32) (j : Fin 128), (step_main_v8_6 V : S32x128.Idx → EReal) (ix2 r j) = P.hid r (k + 1) hk j := by
    intro r j
    rw [step6_eq]
    exact next_of hk _ _ h.ctr _ _ _ _ _ h.x h.wk h.b0 h.wr h.b1 h.st r j
  refine ⟨?_, ?_, ?_, ?_, ?_, ?_, ?_, ?_⟩
  · rw [STEP_main_v8_0]; exact h.x
  · rw [STEP_main_v8_1]; exact h.wk
  · rw [STEP_main_v8_2]; exact h.b0
  · rw [STEP_main_v8_3]; exact h.wr
  · rw [STEP_main_v8_4]; exact h.b1
  · rw [STEP_main_v8_5]; exact ctr_succ _ h.ctr
  · rw [STEP_main_v8_6]; exact h6
  · intro t r j ht
    rw [STEP_main_v8_7, step7_eq]
    refine (stack_apply hk _ _ _ h.ctr t r j).trans ?_
    split
    · rename_i e
      rw [h6]
      obtain ⟨t, ht'⟩ := t
      simp only at e
      subst e
      rfl
    · exact h.stack t r j (by omega)

variable (m : (ℓ : Loc nD τ sig) → Buf (Elt Ideal) ℓ) (d : Dev nD)

/-- It holds where the loop starts. -/
theorem Inv.entry (h : Named (m ((d.tc : Thread nD τ).loc main_arg0))) : Inv (prmR m d h) 0 (Nat.zero_le _) (entryContents preI m d) := by
  refine ⟨?_, ?_, ?_, ?_, ?_, ?_, ?_, fun t r j ht => absurd ht (Nat.not_lt_zero _)⟩
  · intro t b l
    rw [entry_v0]
    refine Eq.trans ?_ (take_apply _ _ h b t l)
    generalize take _ _ = T
    pointwise
  · intro l j; rw [entry_v1]; rfl
  · intro j
    rw [entry_v2]
    show _ = (m ((d.tc : Thread nD τ).loc main_arg4) : S2x384.Idx → EReal) (ix2 0 j)
    generalize m ((d.tc : Thread nD τ).loc main_arg4) = B
    pointwise
  · intro l j; rw [entry_v3]; rfl
  · intro j
    rw [entry_v4]
    show _ = (m ((d.tc : Thread nD τ).loc main_arg4) : S2x384.Idx → EReal) (ix2 1 j)
    generalize m ((d.tc : Thread nD τ).loc main_arg4) = B
    pointwise
  · exact ctr_entry m d
  · intro r j
    rw [entry_v6]
    show _ = (0 : EReal)
    pointwise

/-- It holds before every trip. -/
theorem Inv.iter (h : Named (m ((d.tc : Thread nD τ).loc main_arg0))) : ∀ (k : ℕ) (hk : k ≤ 20), Inv (prmR m d h) k hk (STEP^[k] (entryContents preI m d))
  | 0, _ => Inv.entry m d h
  | k + 1, hk => by
    rw [Function.iterate_succ_apply']
    exact Inv.step (Inv.iter h k (Nat.le_of_succ_le hk))

end Cert.Proof.Ref

end
-- ==== Proof.RefValue.lean ====
/-
  The reference's result: the problem's probabilities.
-/
module

public import proofs.«01_k».proof.Proof.RefStep

@[expose] public section

noncomputable section

namespace Cert.Proof.Ref

open Cert.ReferenceIdeal Cert.ReferenceIdeal.Gen Cert.ReferenceIdeal.Value

open Idealize.ShloMosaic
open Idealize.ShloMosaic.TcCoe
open Idealize.ShloMosaic.StableHlo
open Cert.Proof.Soft
open scoped BigOperators

/-- The logits from the stacked states, the dense weight and the dense bias. -/
def logitsR (y : FVec Ideal S20x32x128 .f32) (W : FVec Ideal S128x100000 .f32) (b : FVec Ideal S100000 .f32) : FVec Ideal S32x20x100000 .f32 :=
  addf (Host.dotGeneral dot_S32x20x128_S128x100000_S32x20x100000_2_0_01_1_n_n none (transpose S32x20x128 [1, 0, 2] y transposes_S20x32x128_S32x20x128_1_0_2) W) (broadcastInDim S32x20x100000 ![0, 1, 2] bcast_S1x1x100000_S32x20x100000_0_1_2 (broadcastInDim S1x1x100000 ![2] bcast_S100000_S1x1x100000_2 b))

section Any

/-- The two batch axes and a class axis of any length. -/
abbrev Rows (n : ℕ) : Shape := ⟨3, ![32, 20, n]⟩

variable {n : ℕ} (hr : (Rows n).ReducesTo [2] S32x20) (hb : S32x20x1.BroadcastsInDim (Rows n) (![0, 1, 2] : Fin 3 → Fin (Rows n).rank))

/-- The rows' greatest logits. -/
def maxR (L : FVec Ideal (Rows n) .f32) : FVec Ideal S32x20 .f32 :=
  maximumf (broadcastInDim S32x20 ![] bcast_S_S32x20 (constant S_ .f32 0xFF800000#32)) (Host.reduce FloatOps.maximumf L (constant S_ .f32 0xFF800000#32) hr h_S_)

/-- The shifted exponentials. -/
def expR (L : FVec Ideal (Rows n) .f32) (M : FVec Ideal S32x20 .f32) : FVec Ideal (Rows n) .f32 :=
  Host.exp (subf L (broadcastInDim (Rows n) ![0, 1, 2] hb (broadcastInDim S32x20x1 ![0, 1] bcast_S32x20_S32x20x1_0_1 M)))

/-- The rows divided by their sums. -/
def normR (E : FVec Ideal (Rows n) .f32) : FVec Ideal (Rows n) .f32 :=
  Host.divf E (broadcastInDim (Rows n) ![0, 1, 2] hb (broadcastInDim S32x20x1 ![0, 1] bcast_S32x20_S32x20x1_0_1 (Host.reduceAdd E (constant S_ .f32 0x00000000#32) hr h_S_)))

/-- An entry of maxR. -/
theorem maxR_apply (L : FVec Ideal (Rows n) .f32) (r : Fin 32) (t : Fin 20) :
    maxR hr L (ix2 r t) = (max ⊥ (Finset.univ.fold max ⊥ fun j : Fin n => L (ix3 r t j)) : EReal) := by
  pointwise [maxR]
  rw [ofBits_bot]

/-- An entry of expR. -/
theorem expR_apply (L : FVec Ideal (Rows n) .f32) (M : FVec Ideal S32x20 .f32) (r : Fin 32) (t : Fin 20) (j : Fin n) :
    expR hb L M (ix3 r t j) = (Ideal.exp (L (ix3 r t j) - M (ix2 r t)) : EReal) := by
  pointwise [expR]

/-- An entry of normR. -/
theorem normR_apply (E : FVec Ideal (Rows n) .f32) (r : Fin 32) (t : Fin 20) (j : Fin n) :
    normR hr hb E (ix3 r t j) = (Ideal.div (E (ix3 r t j)) (0 + ∑ k : Fin n, E (ix3 r t k)) : EReal) := by
  pointwise [normR]

/-- Rows of real logits give the probabilities. -/
theorem soft_apply (hn : 0 < n) (L : FVec Ideal (Rows n) .f32) (r : Fin 32) (t : Fin 20) (f : ℕ → ℝ) (hL : ∀ j : Fin n, L (ix3 r t j) = (f j.val : EReal)) (c : Fin n) :
    normR hr hb (expR hb L (maxR hr L)) (ix3 r t c) = (prob n f c.val : EReal) := by
  rw [normR_apply]
  have e : ∀ j : Fin n, expR hb L (maxR hr L) (ix3 r t j) = (Ideal.exp (L (ix3 r t j) - max ⊥ (Finset.univ.fold max ⊥ fun j : Fin n => L (ix3 r t j))) : EReal) := by
    intro j; rw [expR_apply, maxR_apply]
  rw [e c, Finset.sum_congr rfl fun k _ => e k]
  exact ref_prob f n c.val hn _ hL _ (hL c)

end Any

/-- An entry of logitsR. -/
theorem logitsR_apply (y : FVec Ideal S20x32x128 .f32) (W : FVec Ideal S128x100000 .f32) (b : FVec Ideal S100000 .f32) (r : Fin 32) (t : Fin 20) (j : Fin 100000) :
    logitsR y W b (ix3 r t j) = ((∑ k : Fin 128, y (ix3 t r k) * W (ix2 k j)) + b (ix1 j) : EReal) := by
  pointwise [logitsR]

/-- The result's term, by its parts. -/
theorem out_eq (V : Valuation τ sig (Elt Ideal)) (L : FVec Ideal S32x20x100000 .f32)
    (hL : L = logitsR (V (Proc.devRef .tc main_v8_7)) (V (Proc.devRef .tc main_arg5)) (V (Proc.devRef .tc main_arg6))) :
    out_main_v24 V = normR reducesTo_S32x20x100000_S32x20_d2 bcast_S32x20x1_S32x20x100000_0_1_2 (expR bcast_S32x20x1_S32x20x100000_0_1_2 L (maxR reducesTo_S32x20x100000_S32x20_d2 L)) := by
  subst hL
  unfold out_main_v24 normR expR maxR logitsR
  rfl

variable (m : (ℓ : Loc nD τ sig) → Buf (Elt Ideal) ℓ) (d : Dev nD)

/-- The reference's result, an entry at a time: the problem's probability. -/
theorem value (h : Named (m ((d.tc : Thread nD τ).loc main_arg0))) (hW : ∀ k c, IsReal ((prmR m d h).Wd k c)) (hb : ∀ c, IsReal ((prmR m d h).bd c))
    (r : Fin 32) (t : Fin 20) (c : Fin 100000) :
    (out_main_v24 (STEP^[20] (entryContents preI m d)) : S32x20x100000.Idx → EReal) (ix3 r t c) = (prmR m d h).out r t c := by
  have hI := Inv.iter m d h 20 (Nat.le_refl _)
  rw [out_eq _ _ rfl]
  refine soft_apply _ _ (by decide) _ r t ((prmR m d h).row r t) (fun j => ?_) c
  rw [logitsR_apply, ← (prmR m d h).logit_real hW hb r t j, iter_main_arg5, iter_main_arg6]
  refine congrArg₂ (fun a b : EReal => a + b) (Finset.sum_congr rfl fun k _ => ?_) rfl
  exact congrArg₂ (fun a b : EReal => a * b) (hI.stack t r k t.isLt) rfl

end Cert.Proof.Ref

end
-- ==== Proof.Precond.lean ====
/-
  The precondition read back: every index names a row of the table; every entry of the dense weight and the dense bias is
  finite.
-/
module

public import proofs.«01_k».proof.Pre_finite_in_vocab
public import proofs.«01_k».proof.Proof.Gen.Pre_finite_in_vocab
public import proofs.«01_k».proof.Proof.Soft
public import Idealize.ShloMosaic.Lib.ReduceAll

@[expose] public section

noncomputable section

namespace Cert.Proof.Pre

open Idealize.ShloMosaic
open Cert.Pre_finite_in_vocab Cert.Pre_finite_in_vocab.Facts
open Cert.Proof.Soft

instance : Subsingleton S_.Idx := ⟨fun _ _ => funext fun i => i.elim0⟩

/-- The and of two truth bits. -/
theorem andi_ofBool (p q : Bool) : IntOp.andi (BitVec.ofBool p) (BitVec.ofBool q) = BitVec.ofBool (p && q) := by
  cases p <;> cases q <;> decide
/-- A truth bit is one when its truth is true. -/
theorem ofBool_eq_one (p : Bool) : (BitVec.ofBool p = 1#1) ↔ p = true := by cases p <;> decide

/-- A conjunction of bits that is one has both. -/
theorem andi_one {a b : BitVec 1} (h : IntOp.andi a b = 1#1) : a = 1#1 ∧ b = 1#1 := by
  revert h; revert a b; decide

/-- A word between zero and the table's height, as the host compares. -/
theorem word_of {v : BitVec 32} (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- An extended real whose absolute value is below infinity is real. -/
theorem real_of {x : EReal} (e : Ideal.cmp .olt (max x (-x)) (Ideal.ofBits .f32 0x7F800000#32) = 1#1) : IsReal x := by
  have htop : Ideal.ofBits .f32 0x7F800000#32 = ⊤ := by simp [Ideal.ofBits, Ideal.ieee]
  rw [htop] at e
  unfold Ideal.cmp at e
  rw [ofBool_eq_one] at e
  have e' : max x (-x) < ⊤ := by simpa using e
  rw [max_lt_iff] at e'
  induction x using EReal.rec with
  | bot => exact absurd e'.2 (by simp)
  | coe r => exact ⟨r, rfl⟩
  | top => exact absurd e'.1 (by simp)

variable {F : FTy → Type} [FloatOps F] [Facts]

/-- The predicate's three conjuncts. -/
theorem parts (a0 : IVec S32x20 32) (a1 : FVec F S100000x64 .f32) (a2 : FVec F S64x384 .f32) (a3 : FVec F S128x384 .f32) (a4 : FVec F S2x384 .f32)
    (a5 : FVec F S128x100000 .f32) (a6 : FVec F S100000 .f32) (h : fn a0 a1 a2 a3 a4 a5 a6 = fun _ => 1#1) :
    (∀ i, andi (cmpi .sge a0 (broadcastInDim S32x20 ![] bcast_S_S32x20 (constantI S_ 32 0#32))) (cmpi .slt a0 (broadcastInDim S32x20 ![] bcast_S_S32x20 (constantI S_ 32 100000#32))) i = 1#1)
      ∧ (∀ i, cmpf .olt (Host.absf a5) (broadcastInDim S128x100000 ![] bcast_S_S128x100000 (constant S_ .f32 0x7F800000#32)) i = 1#1)
      ∧ ∀ i, cmpf .olt (Host.absf a6) (broadcastInDim S100000 ![] bcast_S_S100000 (constant S_ .f32 0x7F800000#32)) i = 1#1 := by
  have e := congrFun h (Shape.Idx.first h_S_)
  unfold fn at e
  obtain ⟨e1, e2⟩ := andi_one (a := andi _ _ _) e
  obtain ⟨e0, e1⟩ := andi_one e1
  exact ⟨Host.reduce_andi_all _ _ _ _ _ e0, Host.reduce_andi_all _ _ _ _ _ e1, Host.reduce_andi_all _ _ _ _ _ e2⟩

/-- Every index names a row. -/
theorem ids_of (a0 : IVec S32x20 32) (a1 : FVec F S100000x64 .f32) (a2 : FVec F S64x384 .f32) (a3 : FVec F S128x384 .f32) (a4 : FVec F S2x384 .f32)
    (a5 : FVec F S128x100000 .f32) (a6 : FVec F S100000 .f32) (h : fn a0 a1 a2 a3 a4 a5 a6 = fun _ => 1#1) (j : S32x20.Idx) : (a0 j).toNat < 100000 :=
  word_of ((parts a0 a1 a2 a3 a4 a5 a6 h).1 j)

/-- The dense weight and the dense bias are real. -/
theorem real5_of (a0 : IVec S32x20 32) (a1 : FVec Ideal S100000x64 .f32) (a2 : FVec Ideal S64x384 .f32) (a3 : FVec Ideal S128x384 .f32) (a4 : FVec Ideal S2x384 .f32)
    (a5 : FVec Ideal S128x100000 .f32) (a6 : FVec Ideal S100000 .f32) (h : fn a0 a1 a2 a3 a4 a5 a6 = fun _ => 1#1) (j : S128x100000.Idx) : IsReal (a5 j) :=
  real_of ((parts a0 a1 a2 a3 a4 a5 a6 h).2.1 j)
/-- The dense bias is real, from the precondition. -/
theorem real6_of (a0 : IVec S32x20 32) (a1 : FVec Ideal S100000x64 .f32) (a2 : FVec Ideal S64x384 .f32) (a3 : FVec Ideal S128x384 .f32) (a4 : FVec Ideal S2x384 .f32)
    (a5 : FVec Ideal S128x100000 .f32) (a6 : FVec Ideal S100000 .f32) (h : fn a0 a1 a2 a3 a4 a5 a6 = fun _ => 1#1) (j : S100000.Idx) : IsReal (a6 j) :=
  real_of ((parts a0 a1 a2 a3 a4 a5 a6 h).2.2 j)

end Cert.Proof.Pre

end
-- ==== Proof.lean ====
/-
  The proof of `Cert.Claim`: the frames of the kernel, of its idealized text and of the reference, the named constant, and
  the value claim.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_in_vocab
public import proofs.«01_k».proof.Proof.KernelValue
public import proofs.«01_k».proof.Proof.RefValue
public import proofs.«01_k».proof.Proof.WordArgs
public import proofs.«01_k».proof.Proof.Precond
public import Idealize.ShloMosaic.Adequacy
public import Idealize.ShloMosaic.Init
public import Idealize.ShloMosaic.PureOps.IdealRules

@[expose] public section

noncomputable section

namespace Cert.Proof

open Idealize.ShloMosaic Idealize.SL.Sem
open Cert.Proof.Soft

/-- An unscoped array of the kernel is among those the run accounts for. -/
theorem mem_uc (b : Ref Cert.KernelIdeal.sig .tc) (h : b.isScoped = false) :
    (Proc.devRef .tc b : DevRef Cert.KernelIdeal.τ Cert.KernelIdeal.sig) ∈ Pipeline.ucRefs Cert.KernelIdeal.τ Cert.KernelIdeal.sig :=
  Finset.mem_filter.mpr ⟨StableHlo.devRef_mem_tcRefs _, fun h' => Bool.false_ne_true (h.symm.trans h')⟩
/-- An unscoped array of the kernel over machine words is among those the run accounts for. -/
theorem mem_uw (b : Ref Cert.Kernel.sig .tc) (h : b.isScoped = false) :
    (Proc.devRef .tc b : DevRef Cert.Kernel.τ Cert.Kernel.sig) ∈ Pipeline.ucRefs Cert.Kernel.τ Cert.Kernel.sig :=
  Finset.mem_filter.mpr ⟨StableHlo.devRef_mem_tcRefs _, fun h' => Bool.false_ne_true (h.symm.trans h')⟩

/-- The kernel, over machine words: it ends, its arguments as they were, every semaphore at zero. -/
theorem frame_kernel : Cert.quiescent_Kernel := fun m ρ hpre =>
  (θ_run Cert.Kernel.defs _ _).mono (fun _ hr => ⟨fun c => by
      obtain ⟨V, hV, hb⟩ := hr.1 c
      exact ⟨(hb _ (mem_uw Cert.Kernel.main_arg0 rfl)).trans (Word.end_arg0 hV), (hb _ (mem_uw Cert.Kernel.main_arg1 rfl)).trans (Word.end_arg1 hV),
        (hb _ (mem_uw Cert.Kernel.main_arg2 rfl)).trans (Word.end_arg2 hV), (hb _ (mem_uw Cert.Kernel.main_arg3 rfl)).trans (Word.end_arg3 hV),
        (hb _ (mem_uw Cert.Kernel.main_arg4 rfl)).trans (Word.end_arg4 hV), (hb _ (mem_uw Cert.Kernel.main_arg5 rfl)).trans (Word.end_arg5 hV),
        (hb _ (mem_uw Cert.Kernel.main_arg6 rfl)).trans (Word.end_arg6 hV)⟩, hr.2⟩)
    (Word.run_main (F := Bits) m ρ (Word.preOK_of m fun d => Pre.ids_of _ _ _ _ _ _ _ (hpre d)))

/-- Every index names a row, from the precondition. -/
theorem inVocab (m : (ℓ : Loc Cert.KernelIdeal.nD Cert.KernelIdeal.τ Cert.KernelIdeal.sig) → Buf (Elt Ideal) ℓ) (hpre : Cert.Pre_KernelIdeal m)
    (d : Dev Cert.KernelIdeal.nD) : Lookup.InVocab (Lookup.idsM m d) := Pre.ids_of _ _ _ _ _ _ _ (hpre d)

/-- The kernel over extended reals: its run, its arguments as they were, every semaphore at zero. -/
theorem run_ideal (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩ (Lookup.QC m) :=
  Lookup.run_main (F := Ideal) m ρ (Lookup.preOK_of m (inVocab m hpre))

/-- The kernel, over extended reals: it ends, its arguments as they were, every semaphore at zero. -/
theorem frame_kernelIdeal : Cert.quiescent_KernelIdeal := fun m ρ hpre =>
  (θ_run Cert.KernelIdeal.defs _ _).mono (fun _ hr => ⟨fun c => by
      obtain ⟨V, hV, hb⟩ := hr.1 c
      exact ⟨(hb _ (mem_uc Cert.KernelIdeal.main_arg0 rfl)).trans (Lookup.end_arg0 hV), (hb _ (mem_uc Cert.KernelIdeal.main_arg1 rfl)).trans (Lookup.end_arg1 hV),
        (hb _ (mem_uc Cert.KernelIdeal.main_arg2 rfl)).trans (Lookup.end_arg2 hV), (hb _ (mem_uc Cert.KernelIdeal.main_arg3 rfl)).trans (Lookup.end_arg3 hV),
        (hb _ (mem_uc Cert.KernelIdeal.main_arg4 rfl)).trans (Lookup.end_arg4 hV), (hb _ (mem_uc Cert.KernelIdeal.main_arg5 rfl)).trans (Lookup.end_arg5 hV),
        (hb _ (mem_uc Cert.KernelIdeal.main_arg6 rfl)).trans (Lookup.end_arg6 hV)⟩, hr.2⟩)
    (run_ideal m ρ hpre)

/-- The reference ends, its arguments as they were; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The mask's constant stands for minus infinity. -/
theorem preserves : Cert.preserves_Kernel_KernelIdeal :=
  IdealRules.named_const.statement Cert.KernelIdeal.κ "mask" .f32 0xF149F2CA#32 (⊥ : EReal) rfl

/-- The inputs, from seven arrays. -/
def inputs (ids : Cert.KernelIdeal.S32x20.Idx → BitVec 32) (tab : Cert.KernelIdeal.S100000x64.Idx → EReal) (wk : Cert.KernelIdeal.S64x384.Idx → EReal)
    (wr : Cert.KernelIdeal.S128x384.Idx → EReal) (bb : Cert.KernelIdeal.S2x384.Idx → EReal) (wd : Cert.KernelIdeal.S128x100000.Idx → EReal)
    (bd : Cert.KernelIdeal.S100000.Idx → EReal) (h : ∀ j, (ids j).toNat < 100000) : Prm where
  X t b l := tab (ix2 ⟨(ids (ix2 b t)).toNat, h _⟩ l)
  Wk l j := wk (ix2 l j)
  Wr k j := wr (ix2 k j)
  bb i j := bb (ix2 i j)
  Wd k c := wd (ix2 k c)
  bd c := bd (ix1 c)

/-- Equal arrays are equal inputs. -/
theorem inputs_congr {ids ids' : Cert.KernelIdeal.S32x20.Idx → BitVec 32} {tab tab' : Cert.KernelIdeal.S100000x64.Idx → EReal} {wk wk' : Cert.KernelIdeal.S64x384.Idx → EReal}
    {wr wr' : Cert.KernelIdeal.S128x384.Idx → EReal} {bb bb' : Cert.KernelIdeal.S2x384.Idx → EReal} {wd wd' : Cert.KernelIdeal.S128x100000.Idx → EReal}
    {bd bd' : Cert.KernelIdeal.S100000.Idx → EReal} (h : ∀ j, (ids j).toNat < 100000) (h' : ∀ j, (ids' j).toNat < 100000)
    (e0 : ids' = ids) (e1 : tab' = tab) (e2 : wk' = wk) (e3 : wr' = wr) (e4 : bb' = bb) (e5 : wd' = wd) (e6 : bd' = bd) :
    inputs ids' tab' wk' wr' bb' wd' bd' h' = inputs ids tab wk wr bb wd bd h := by
  subst e0 e1 e2 e3 e4 e5 e6
  rfl

/-- The value both programs end with: the problem's probabilities. -/
def answer (m : (ℓ : Loc Cert.KernelIdeal.nD Cert.KernelIdeal.τ Cert.KernelIdeal.sig) → Buf (Elt Ideal) ℓ) (hpre : Cert.Pre_KernelIdeal m)
    (c : Dev Cert.KernelIdeal.nD) : Cert.KernelIdeal.S32x20x100000.Idx → EReal :=
  fun i => (Lookup.prmK m c (inVocab m hpre c)).out (i 0) (i 1) (i 2)

/-- An array of three axes is known by its entries. -/
theorem ext3 {f g : Cert.KernelIdeal.S32x20x100000.Idx → EReal} (h : ∀ (a : Fin 32) (b : Fin 20) (c : Fin 100000), f (ix3 a b c) = g (ix3 a b c)) : f = g := by
  funext i
  have e : i = ix3 (i 0) (i 1) (i 2) := by
    funext a
    match a with
    | 0 => rfl
    | 1 => rfl
    | 2 => rfl
  rw [e]
  exact h _ _ _

/-- From equal arguments the two programs see the same inputs. -/
theorem same_inputs (m : (ℓ : Loc Cert.KernelIdeal.nD Cert.KernelIdeal.τ Cert.KernelIdeal.sig) → Buf (Elt Ideal) ℓ) (hpre : Cert.Pre_KernelIdeal m)
    (m' : (ℓ : Loc Cert.ReferenceIdeal.nD Cert.ReferenceIdeal.τ Cert.ReferenceIdeal.sig) → Buf (Elt Ideal) ℓ) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h' : Ref.Named (m' ((c.tc : Thread Cert.ReferenceIdeal.nD Cert.ReferenceIdeal.τ).loc Cert.ReferenceIdeal.main_arg0))) :
    Ref.prmR m' c h' = Lookup.prmK m c (inVocab m hpre c) :=
  inputs_congr (inVocab m hpre c) h' e.1 e.2.1 e.2.2.1 e.2.2.2.1 e.2.2.2.2.1 e.2.2.2.2.2.1 e.2.2.2.2.2.2

/-- Both programs end with the problem's probabilities. -/
theorem algebraic : Cert.algebraic_KernelIdeal_ReferenceIdeal := fun m ρ m' ρ' hpre hargs => by
  have hW : ∀ c k j, IsReal ((Lookup.prmK m c (inVocab m hpre c)).Wd k j) := fun c k j => Pre.real5_of _ _ _ _ _ _ _ (hpre c) (ix2 k j)
  have hb : ∀ c j, IsReal ((Lookup.prmK m c (inVocab m hpre c)).bd j) := fun c j => Pre.real6_of _ _ _ _ _ _ _ (hpre c) (ix1 j)
  refine ⟨answer m hpre, (θ_run Cert.KernelIdeal.defs _ _).mono (fun _ hr c => ?_) (run_ideal m ρ hpre),
    (θ_run Cert.ReferenceIdeal.defs _ _).mono (fun _ h c => ⟨(h c).1.trans ?_, (h c).2⟩) (Cert.ReferenceIdeal.Value.run m' ρ')⟩
  · obtain ⟨V, hV, hm⟩ := hr.1 c
    exact ⟨(hm _ (mem_uc Cert.KernelIdeal.main_v15 rfl)).trans (ext3 fun b t j => Lookup.result_value (inVocab m hpre c) (hW c) (hb c) hV b t j),
      (hm _ (mem_uc Cert.KernelIdeal.main_arg0 rfl)).trans (Lookup.end_arg0 hV), (hm _ (mem_uc Cert.KernelIdeal.main_arg1 rfl)).trans (Lookup.end_arg1 hV),
      (hm _ (mem_uc Cert.KernelIdeal.main_arg2 rfl)).trans (Lookup.end_arg2 hV), (hm _ (mem_uc Cert.KernelIdeal.main_arg3 rfl)).trans (Lookup.end_arg3 hV),
      (hm _ (mem_uc Cert.KernelIdeal.main_arg4 rfl)).trans (Lookup.end_arg4 hV), (hm _ (mem_uc Cert.KernelIdeal.main_arg5 rfl)).trans (Lookup.end_arg5 hV),
      (hm _ (mem_uc Cert.KernelIdeal.main_arg6 rfl)).trans (Lookup.end_arg6 hV)⟩
  · have h' : Ref.Named (m' ((c.tc : Thread Cert.ReferenceIdeal.nD Cert.ReferenceIdeal.τ).loc Cert.ReferenceIdeal.main_arg0)) := by
      rw [(hargs c).1]
      exact inVocab m hpre c
    have es := same_inputs m hpre m' c (hargs c) h'
    refine ext3 fun b t j => ?_
    refine (Ref.value m' c h' (fun k j => by rw [es]; exact hW c k j) (fun j => by rw [es]; exact hb c j) b t j).trans ?_
    rw [es]
    rfl

/-- The five claims together. -/
theorem claim : Cert.Claim := ⟨Cert.Kernel.Gen.facts, Cert.KernelIdeal.Gen.facts, Cert.ReferenceIdeal.Gen.facts, Cert.Pre_finite_in_vocab.Gen.facts,
  frame_kernel, frame_kernelIdeal, frame_reference, preserves, algebraic⟩

end Cert.Proof

end
